-- ==== Defs.lean ====
def Pre_Kernel [hPre_seq_in_vocab : Cert.Pre_seq_in_vocab.Facts] (m : (ℓ : Loc Cert.Kernel.nD Cert.Kernel.τ Cert.Kernel.sig) → Buf (Elt Bits) ℓ) : Prop :=
  ∀ c : Dev Cert.Kernel.nD,
    (Cert.Pre_seq_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_seq_in_vocab : Cert.Pre_seq_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_seq_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_tokens_apart [hPre_tokens_apart : Cert.Pre_tokens_apart.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_tokens_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_tokens_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_tokens_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_tokens_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_apart [hPre_tokens_apart : Cert.Pre_tokens_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_tokens_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_tokens_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_tokens_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_tokens_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] [hPre_seq_in_vocab : Cert.Pre_seq_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_seq_in_vocab : Cert.Pre_seq_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tokens_apart [hKernelIdeal : Cert.KernelIdeal.Facts] [hPre_tokens_apart : Cert.Pre_tokens_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tokens_apart [hReferenceIdeal : Cert.ReferenceIdeal.Facts] [hPre_tokens_apart : Cert.Pre_tokens_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tokens_apart [hKernelIdeal : Cert.KernelIdeal.Facts] [hReferenceIdeal : Cert.ReferenceIdeal.Facts] [hPre_tokens_apart : Cert.Pre_tokens_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_seq_in_vocab : Cert.Pre_seq_in_vocab.Facts) (hPre_tokens_apart : Cert.Pre_tokens_apart.Facts),
    quiescent_Kernel (hKernel := hKernel) (hPre_seq_in_vocab := hPre_seq_in_vocab)
    ∧ quiescent_KernelIdeal (hKernelIdeal := hKernelIdeal) (hPre_seq_in_vocab := hPre_seq_in_vocab)
    ∧ quiescent_KernelIdeal_pre_tokens_apart (hKernelIdeal := hKernelIdeal) (hPre_tokens_apart := hPre_tokens_apart)
    ∧ quiescent_ReferenceIdeal (hReferenceIdeal := hReferenceIdeal)
    ∧ quiescent_ReferenceIdeal_pre_tokens_apart (hReferenceIdeal := hReferenceIdeal) (hPre_tokens_apart := hPre_tokens_apart)
    ∧ preserves_Kernel_KernelIdeal
    ∧ algebraic_KernelIdeal_ReferenceIdeal_pre_tokens_apart (hKernelIdeal := hKernelIdeal) (hReferenceIdeal := hReferenceIdeal) (hPre_tokens_apart := hPre_tokens_apart)
-- ==== Pre_seq_in_vocab.lean ====
abbrev S128x8192 : Shape := ⟨2, ![128, 8192]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S128x8192 : S_.BroadcastsInDim S128x8192 (![] : Fin 0 → Fin S128x8192.rank)

variable [Facts]

def fn {F : FTy → Type} [FloatOps F] (main_arg0 : IVec S128x8192 32) (main_arg1 : FVec F S64x64 .f32) (main_arg2 : FVec F S64x128 .f32) (main_arg3 : FVec F S128 .f32) (main_arg4 : FVec F S128x64 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) : IVec S128x8192 1 :=
  let main_c : IVec S_ 32 := constantI S_ 32 0#32
  let main_v0 : IVec S128x8192 32 := broadcastInDim S128x8192 ![] bcast_S_S128x8192 main_c
  let main_v1 : IVec S128x8192 1 := cmpi .sge main_arg0 main_v0
  let main_c_0 : IVec S_ 32 := constantI S_ 32 64#32
  let main_v2 : IVec S128x8192 32 := broadcastInDim S128x8192 ![] bcast_S_S128x8192 main_c_0
  let main_v3 : IVec S128x8192 1 := cmpi .slt main_arg0 main_v2
  let main_v4 : IVec S128x8192 1 := andi main_v1 main_v3
  main_v4
-- ==== Pre_tokens_apart.lean ====
abbrev S128x8192 : Shape := ⟨2, ![128, 8192]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1x64 : Shape := ⟨2, ![1, 64]⟩
abbrev S64x1 : Shape := ⟨2, ![64, 1]⟩

class Facts : Prop where
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S_S128x8192 : S_.BroadcastsInDim S128x8192 (![] : Fin 0 → Fin S128x8192.rank)
  bcast_S_S64 : S_.BroadcastsInDim S64 (![] : Fin 0 → Fin S64.rank)
  bcast_S_S64x64 : S_.BroadcastsInDim S64x64 (![] : Fin 0 → Fin S64x64.rank)
  dot_S64x64_S64x128_S64x128_1_0_0_1_n_n_wf : DotDims.WF S64x64 S64x128 S64x128 [1] [0] [0] [1] [] []
  dot_S64x128_S128x64_S64x64_1_0_0_1_n_n_wf : DotDims.WF S64x128 S128x64 S64x64 [1] [0] [0] [1] [] []

variable [Facts]

def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def fn_part3 {F : FTy → Type} [FloatOps F] (main_v43 : IVec S64x64 1) (main_v48 : IVec S128x8192 1) (main_v51 : IVec S64 1) (main_v54 : IVec S64x64 1) (main_v57 : IVec S64 1) (main_v58 : FVec F S64x1 .f32) (main_v59 : FVec F S1x64 .f32) : IVec S128x8192 1 × IVec S64 1 × IVec S64x64 1 × IVec S64 1 × IVec S64x64 1 :=
  let main_v60 : FVec F S64x64 .f32 := broadcastInDim S64x64 ![0, 1] bcast_S64x1_S64x64_0_1 main_v58
  let main_v61 : FVec F S64x64 .f32 := broadcastInDim S64x64 ![0, 1] bcast_S1x64_S64x64_0_1 main_v59
  let main_v62 : IVec S64x64 1 := cmpf .une main_v60 main_v61
  let main_v63 : IVec S64x64 1 := ori main_v62 main_v43
  (main_v48, main_v51, main_v54, main_v57, main_v63)

def fn_part2 {F : FTy → Type} [FloatOps F] (main_arg0 : IVec S128x8192 32) (main_arg6 : FVec F S64 .f32) (main_arg8 : FVec F S64x64 .f32) (main_arg9 : FVec F S64 .f32) (main_v36 : FVec F S64 .f32) (main_v38 : IVec S64x1 32) (main_v40 : IVec S1x64 32) : IVec S128x8192 1 × IVec S64 1 × IVec S64x64 1 × IVec S64 1 × IVec S64x64 1 :=
  let main_v41 : IVec S64x64 32 := broadcastInDim S64x64 ![0, 1] bcast_S64x1_S64x64_0_1 main_v38
  let main_v42 : IVec S64x64 32 := broadcastInDim S64x64 ![0, 1] bcast_S1x64_S64x64_0_1 main_v40
  let main_v43 : IVec S64x64 1 := cmpi .eq main_v41 main_v42
  let main_c : IVec S_ 32 := constantI S_ 32 0#32
  let main_v44 : IVec S128x8192 32 := broadcastInDim S128x8192 ![] bcast_S_S128x8192 main_c
  let main_v45 : IVec S128x8192 1 := cmpi .sge main_arg0 main_v44
  let main_c_6 : IVec S_ 32 := constantI S_ 32 64#32
  let main_v46 : IVec S128x8192 32 := broadcastInDim S128x8192 ![] bcast_S_S128x8192 main_c_6
  let main_v47 : IVec S128x8192 1 := cmpi .slt main_arg0 main_v46
  let main_v48 : IVec S128x8192 1 := andi main_v45 main_v47
  let main_v49 : FVec F S64 .f32 := Host.absf main_arg6
  let main_cst_7 : FVec F S_ .f32 := constant S_ .f32 0x7F800000#32
  let main_v50 : FVec F S64 .f32 := broadcastInDim S64 ![] bcast_S_S64 main_cst_7
  let main_v51 : IVec S64 1 := cmpf .olt main_v49 main_v50
  let main_v52 : FVec F S64x64 .f32 := Host.absf main_arg8
  let main_cst_8 : FVec F S_ .f32 := constant S_ .f32 0x7F800000#32
  let main_v53 : FVec F S64x64 .f32 := broadcastInDim S64x64 ![] bcast_S_S64x64 main_cst_8
  let main_v54 : IVec S64x64 1 := cmpf .olt main_v52 main_v53
  let main_v55 : FVec F S64 .f32 := Host.absf main_arg9
  let main_cst_9 : FVec F S_ .f32 := constant S_ .f32 0x7F800000#32
  let main_v56 : FVec F S64 .f32 := broadcastInDim S64 ![] bcast_S_S64 main_cst_9
  let main_v57 : IVec S64 1 := cmpf .olt main_v55 main_v56
  let main_v58 : FVec F S64x1 .f32 := broadcastInDim S64x1 ![0] bcast_S64_S64x1_0 main_v36
  let main_v59 : FVec F S1x64 .f32 := broadcastInDim S1x64 ![1] bcast_S64_S1x64_1 main_v36
  fn_part3 (F := F) main_v43 main_v48 main_v51 main_v54 main_v57 main_v58 main_v59

def fn_part1 {F : FTy → Type} [FloatOps F] (main_arg0 : IVec S128x8192 32) (main_arg6 : FVec F S64 .f32) (main_arg7 : FVec F S64 .f32) (main_arg8 : FVec F S64x64 .f32) (main_arg9 : FVec F S64 .f32) (main_v10 : FVec F S64x64 .f32) (main_v14 : FVec F S64x1 .f32) (main_v19 : FVec F S64x1 .f32) : IVec S128x8192 1 × IVec S64 1 × IVec S64x64 1 × IVec S64 1 × IVec S64x64 1 :=
  let main_cst_3 : FVec F S_ .f32 := constant S_ .f32 0x42800000#32
  let main_v20 : FVec F S64x1 .f32 := broadcastInDim S64x1 ![] bcast_S_S64x1 main_cst_3
  let main_v21 : FVec F S64x1 .f32 := Host.divf main_v19 main_v20
  let main_v22 : FVec F S64x64 .f32 := broadcastInDim S64x64 ![0, 1] bcast_S64x1_S64x64_0_1 main_v14
  let main_v23 : FVec F S64x64 .f32 := subf main_v10 main_v22
  let main_cst_4 : FVec F S_ .f32 := constant S_ .f32 0x3727C5AC#32
  let main_v24 : FVec F S64x1 .f32 := broadcastInDim S64x1 ![] bcast_S_S64x1 main_cst_4
  let main_v25 : FVec F S64x1 .f32 := addf main_v21 main_v24
  let main_v26 : FVec F S64x1 .f32 := Host.sqrt main_v25
  let main_v27 : FVec F S64x64 .f32 := broadcastInDim S64x64 ![0, 1] bcast_S64x1_S64x64_0_1 main_v26
  let main_v28 : FVec F S64x64 .f32 := Host.divf main_v23 main_v27
  let main_v29 : FVec F S1x64 .f32 := broadcastInDim S1x64 ![1] bcast_S64_S1x64_1 main_arg6
  let main_v30 : FVec F S64x64 .f32 := broadcastInDim S64x64 ![0, 1] bcast_S1x64_S64x64_0_1 main_v29
  let main_v31 : FVec F S64x64 .f32 := mulf main_v28 main_v30
  let main_v32 : FVec F S1x64 .f32 := broadcastInDim S1x64 ![1] bcast_S64_S1x64_1 main_arg7
  let main_v33 : FVec F S64x64 .f32 := broadcastInDim S64x64 ![0, 1] bcast_S1x64_S64x64_0_1 main_v32
  let main_v34 : FVec F S64x64 .f32 := addf main_v31 main_v33
  let main_v35 : FVec F S64x64 .f32 := mulf main_v34 main_v34
  let main_cst_5 : FVec F S_ .f32 := constant S_ .f32 0x00000000#32
  let main_v36 : FVec F S64 .f32 := (fun x v => Host.reduceAdd x v reducesTo_S64x64_S64_d1 h_S_) main_v35 main_cst_5
  let main_v37 : IVec S64 32 := iotaInDim S64 32 0
  let main_v38 : IVec S64x1 32 := broadcastInDim S64x1 ![0] bcast_S64_S64x1_0 main_v37
  let main_v39 : IVec S64 32 := iotaInDim S64 32 0
  let main_v40 : IVec S1x64 32 := broadcastInDim S1x64 ![1] bcast_S64_S1x64_1 main_v39
  fn_part2 (F := F) main_arg0 main_arg6 main_arg8 main_arg9 main_v36 main_v38 main_v40

def fn {F : FTy → Type} [FloatOps F] (main_arg0 : IVec S128x8192 32) (main_arg1 : FVec F S64x64 .f32) (main_arg2 : FVec F S64x128 .f32) (main_arg3 : FVec F S128 .f32) (main_arg4 : FVec F S128x64 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) : IVec S128x8192 1 × IVec S64 1 × IVec S64x64 1 × IVec S64 1 × IVec S64x64 1 :=
  let main_v0 : FVec F S64x128 .f32 := (fun l r => Host.dotGeneral dot_S64x64_S64x128_S64x128_1_0_0_1_n_n none l r) main_arg1 main_arg2
  let main_v1 : FVec F S1x128 .f32 := broadcastInDim S1x128 ![1] bcast_S128_S1x128_1 main_arg3
  let main_v2 : FVec F S64x128 .f32 := broadcastInDim S64x128 ![0, 1] bcast_S1x128_S64x128_0_1 main_v1
  let main_v3 : FVec F S64x128 .f32 := addf main_v0 main_v2
  let main_cst : FVec F S_ .f32 := constant S_ .f32 0x00000000#32
  let main_v4 : FVec F S64x128 .f32 := broadcastInDim S64x128 ![] bcast_S_S64x128 main_cst
  let main_v5 : FVec F S64x128 .f32 := maximumf main_v3 main_v4
  let main_v6 : FVec F S64x64 .f32 := (fun l r => Host.dotGeneral dot_S64x128_S128x64_S64x64_1_0_0_1_n_n none l r) main_v5 main_arg4
  let main_v7 : FVec F S1x64 .f32 := broadcastInDim S1x64 ![1] bcast_S64_S1x64_1 main_arg5
  let main_v8 : FVec F S64x64 .f32 := broadcastInDim S64x64 ![0, 1] bcast_S1x64_S64x64_0_1 main_v7
  let main_v9 : FVec F S64x64 .f32 := addf main_v6 main_v8
  let main_v10 : FVec F S64x64 .f32 := addf main_arg1 main_v9
  let main_cst_0 : FVec F S_ .f32 := constant S_ .f32 0x00000000#32
  let main_v11 : FVec F S64 .f32 := (fun x v => Host.reduceAdd x v reducesTo_S64x64_S64_d1 h_S_) main_v10 main_cst_0
  let main_v12 : FVec F S64x1 .f32 := broadcastInDim S64x1 ![0] bcast_S64_S64x1_0 main_v11
  let main_cst_1 : FVec F S_ .f32 := constant S_ .f32 0x42800000#32
  let main_v13 : FVec F S64x1 .f32 := broadcastInDim S64x1 ![] bcast_S_S64x1 main_cst_1
  let main_v14 : FVec F S64x1 .f32 := Host.divf main_v12 main_v13
  let main_v15 : FVec F S64x64 .f32 := broadcastInDim S64x64 ![0, 1] bcast_S64x1_S64x64_0_1 main_v14
  let main_v16 : FVec F S64x64 .f32 := subf main_v10 main_v15
  let main_v17 : FVec F S64x64 .f32 := mulf main_v16 main_v16
  let main_cst_2 : FVec F S_ .f32 := constant S_ .f32 0x00000000#32
  let main_v18 : FVec F S64 .f32 := (fun x v => Host.reduceAdd x v reducesTo_S64x64_S64_d1 h_S_) main_v17 main_cst_2
  let main_v19 : FVec F S64x1 .f32 := broadcastInDim S64x1 ![0] bcast_S64_S64x1_0 main_v18
  fn_part1 (F := F) main_arg0 main_arg6 main_arg7 main_arg8 main_arg9 main_v10 main_v14 main_v19
-- ==== Kernel.lean ====
abbrev S128x8192 : Shape := ⟨2, ![128, 8192]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1040 : Shape := ⟨2, ![128, 1040]⟩
abbrev S4x4096 : Shape := ⟨2, ![4, 4096]⟩
abbrev S1040 : Shape := ⟨1, ![1040]⟩
abbrev S_ : Shape := ⟨0, ![]⟩
abbrev S16 : Shape := ⟨1, ![16]⟩
abbrev S1x16 : Shape := ⟨2, ![1, 16]⟩
abbrev S1x1040 : Shape := ⟨2, ![1, 1040]⟩
abbrev S1x128 : Shape := ⟨2, ![1, 128]⟩
abbrev S1x64 : Shape := ⟨2, ![1, 64]⟩
abbrev S128x128 : Shape := ⟨2, ![128, 128]⟩
abbrev S64x1 : Shape := ⟨2, ![64, 1]⟩
abbrev S128x1 : Shape := ⟨2, ![128, 1]⟩

abbrev nBuf : Table → Nat
  | .hbm => 24
  | .local .tc .vmem => 22
  | .local .scVector .vmem => 6
  | _ => 0

abbrev bufTy : (tb : Table) → Fin (nBuf tb) → BufTy
  | .hbm, ⟨0, _⟩ => ⟨S128x8192, .i32⟩
  | .hbm, ⟨1, _⟩ => ⟨S64x64, .f32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x1040, .i32⟩
  | .hbm, ⟨13, _⟩ => ⟨S1x128, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S64x64, .f32⟩
  | .hbm, ⟨19, _⟩ => ⟨S128x64, .f32⟩
  | .hbm, ⟨20, _⟩ => ⟨S128x64, .f32⟩
  | .hbm, ⟨21, _⟩ => ⟨S64x64, .f32⟩
  | .hbm, ⟨22, _⟩ => ⟨S1x64, .f32⟩
  | .hbm, ⟨23, _⟩ => ⟨S128x64, .f32⟩
  | .local .tc .vmem, ⟨0, _⟩ => ⟨S128x128, .i32⟩
  | .local .tc .vmem, ⟨1, _⟩ => ⟨S64x64, .f32⟩
  | .local .tc .vmem, ⟨2, _⟩ => ⟨S64x128, .f32⟩
  | .local .tc .vmem, ⟨3, _⟩ => ⟨S1x128, .f32⟩
  | .local .tc .vmem, ⟨4, _⟩ => ⟨S128x64, .f32⟩
  | .local .tc .vmem, ⟨5, _⟩ => ⟨S1x64, .f32⟩
  | .local .tc .vmem, ⟨6, _⟩ => ⟨S1x64, .f32⟩
  | .local .tc .vmem, ⟨7, _⟩ => ⟨S1x64, .f32⟩
  | .local .tc .vmem, ⟨8, _⟩ => ⟨S64x64, .f32⟩
  | .local .tc .vmem, ⟨9, _⟩ => ⟨S1x64, .f32⟩
  | .local .tc .vmem, ⟨10, _⟩ => ⟨S64x64, .f32⟩
  | .local .tc .vmem, ⟨11, _⟩ => ⟨S128x64, .f32⟩
  | .local .tc .vmem, ⟨12, _⟩ => ⟨S128x64, .f32⟩
  | .local .tc .vmem, ⟨13, _⟩ => ⟨S64x64, .f32⟩
  | .local .tc .vmem, ⟨14, _⟩ => ⟨S128x1040, .i32⟩
  | .local .tc .vmem, ⟨15, _⟩ => ⟨S64x64, .f32⟩
  | .local .tc .vmem, ⟨16, _⟩ => ⟨S128x64, .f32⟩
  | .local .tc .vmem, ⟨17, _⟩ => ⟨S128x64, .f32⟩
  | .local .tc .vmem, ⟨18, _⟩ => ⟨S64x64, .f32⟩
  | .local .tc .vmem, ⟨19, _⟩ => ⟨S64x64, .f32⟩
  | .local .tc .vmem, ⟨20, _⟩ => ⟨S1x64, .f32⟩
  | .local .tc .vmem, ⟨21, _⟩ => ⟨S128x64, .f32⟩
  | .local .scVector .vmem, ⟨0, _⟩ => ⟨S4x4096, .i32⟩
  | .local .scVector .vmem, ⟨1, _⟩ => ⟨S4x4096, .i32⟩
  | .local .scVector .vmem, ⟨2, _⟩ => ⟨S1040, .i32⟩
  | .local .scVector .vmem, ⟨3, _⟩ => ⟨S1040, .i32⟩
  | .local .scVector .vmem, ⟨4, _⟩ => ⟨S1040, .i32⟩
  | .local .scVector .vmem, ⟨5, _⟩ => ⟨S1040, .i32⟩
  | _, _ => ⟨S128x8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v7 : Ref sig .tc := ⟨.hbm, 22, rfl⟩
abbrev main_v8 : Ref sig .tc := ⟨.hbm, 23, rfl⟩
abbrev main_arg0_scv : Ref sig .scVector := ⟨.hbm, 0, rfl⟩
abbrev main_v0_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c4096_i32 : BitVec 32 := 4096#32
  ![v2.toNat, 4096]
@[reducible] def k0_t1_loop : Scf.Loop 32 :=
  let c0_i32_3 : BitVec 32 := 0#32
  let c65_i32_4 : BitVec 32 := 65#32
  let v12 : BitVec 32 := Scalar.addi c0_i32_3 c65_i32_4
  let c1_i32_5 : BitVec 32 := 1#32
  ⟨c0_i32_3, v12, c1_i32_5⟩
def k0_off3 (k0_t1 : Fin k0_t1_loop.trips) : Fin 1 → Nat :=
  let c0_i32_34 : BitVec 32 := 0#32
  let c0_i32_3 : BitVec 32 := 0#32
  let c1_i32_5 : BitVec 32 := 1#32
  let arg12 : BitVec 32 := Scf.iv c0_i32_3 c1_i32_5 k0_t1
  let c1_i32_33 : BitVec 32 := 1#32
  let v26 : BitVec 32 := Scalar.muli arg12 c1_i32_33
  let v27 : BitVec 32 := Scalar.addi c0_i32_34 v26
  let c16_i32 : BitVec 32 := 16#32
  let v28 : BitVec 32 := Scalar.muli v27 c16_i32
  let v29 : Index := Scalar.indexCast v28
  ![v29.toNat]
@[reducible] def k0_t2_loop : Scf.Loop 32 :=
  let c0_i32_7 : BitVec 32 := 0#32
  let c65_i32_8 : BitVec 32 := 65#32
  let v13 : BitVec 32 := Scalar.addi c0_i32_7 c65_i32_8
  let c1_i32_9 : BitVec 32 := 1#32
  ⟨c0_i32_7, v13, c1_i32_9⟩
def k0_off4 (k0_t2 : Fin k0_t2_loop.trips) : Fin 1 → Nat :=
  let c0_i32_34 : BitVec 32 := 0#32
  let c0_i32_7 : BitVec 32 := 0#32
  let c1_i32_9 : BitVec 32 := 1#32
  let arg12 : BitVec 32 := Scf.iv c0_i32_7 c1_i32_9 k0_t2
  let c1_i32_33 : BitVec 32 := 1#32
  let v26 : BitVec 32 := Scalar.muli arg12 c1_i32_33
  let v27 : BitVec 32 := Scalar.addi c0_i32_34 v26
  let c16_i32 : BitVec 32 := 16#32
  let v28 : BitVec 32 := Scalar.muli v27 c16_i32
  let v29 : Index := Scalar.indexCast v28
  ![v29.toNat]
@[reducible] def k0_t3_loop : Scf.Loop 32 :=
  let c0_i32_11 : BitVec 32 := 0#32
  let c65_i32_12 : BitVec 32 := 65#32
  let v14 : BitVec 32 := Scalar.addi c0_i32_11 c65_i32_12
  let c1_i32_13 : BitVec 32 := 1#32
  ⟨c0_i32_11, v14, c1_i32_13⟩
def k0_off5 (k0_t3 : Fin k0_t3_loop.trips) : Fin 1 → Nat :=
  let c0_i32_34 : BitVec 32 := 0#32
  let c0_i32_11 : BitVec 32 := 0#32
  let c1_i32_13 : BitVec 32 := 1#32
  let arg12 : BitVec 32 := Scf.iv c0_i32_11 c1_i32_13 k0_t3
  let c1_i32_33 : BitVec 32 := 1#32
  let v26 : BitVec 32 := Scalar.muli arg12 c1_i32_33
  let v27 : BitVec 32 := Scalar.addi c0_i32_34 v26
  let c16_i32 : BitVec 32 := 16#32
  let v28 : BitVec 32 := Scalar.muli v27 c16_i32
  let v29 : Index := Scalar.indexCast v28
  ![v29.toNat]
@[reducible] def k0_t4_loop : Scf.Loop 32 :=
  let c0_i32_15 : BitVec 32 := 0#32
  let c65_i32_16 : BitVec 32 := 65#32
  let v15 : BitVec 32 := Scalar.addi c0_i32_15 c65_i32_16
  let c1_i32_17 : BitVec 32 := 1#32
  ⟨c0_i32_15, v15, c1_i32_17⟩
def k0_off6 (k0_t4 : Fin k0_t4_loop.trips) : Fin 1 → Nat :=
  let c0_i32_34 : BitVec 32 := 0#32
  let c0_i32_15 : BitVec 32 := 0#32
  let c1_i32_17 : BitVec 32 := 1#32
  let arg12 : BitVec 32 := Scf.iv c0_i32_15 c1_i32_17 k0_t4
  let c1_i32_33 : BitVec 32 := 1#32
  let v26 : BitVec 32 := Scalar.muli arg12 c1_i32_33
  let v27 : BitVec 32 := Scalar.addi c0_i32_34 v26
  let c16_i32 : BitVec 32 := 16#32
  let v28 : BitVec 32 := Scalar.muli v27 c16_i32
  let v29 : Index := Scalar.indexCast v28
  ![v29.toNat]
@[reducible] def k0_t5_loop : Scf.Loop 32 :=
  let c0_i32_21 : BitVec 32 := 0#32
  let c256_i32 : BitVec 32 := 256#32
  let v18 : BitVec 32 := Scalar.addi c0_i32_21 c256_i32
  let c1_i32_22 : BitVec 32 := 1#32
  ⟨c0_i32_21, v18, c1_i32_22⟩
def k0_off7 (k0_t5 : Fin k0_t5_loop.trips) : Fin 2 → Nat :=
  let c0_i32_35 : BitVec 32 := 0#32
  let v29 : Index := Scalar.indexCast c0_i32_35
  let c0_i32_34 : BitVec 32 := 0#32
  let c0_i32_21 : BitVec 32 := 0#32
  let c1_i32_22 : BitVec 32 := 1#32
  let arg12 : BitVec 32 := Scf.iv c0_i32_21 c1_i32_22 k0_t5
  let c1_i32_33 : BitVec 32 := 1#32
  let v26 : BitVec 32 := Scalar.muli arg12 c1_i32_33
  let v27 : BitVec 32 := Scalar.addi c0_i32_34 v26
  let c16_i32 : BitVec 32 := 16#32
  let v28 : BitVec 32 := Scalar.muli v27 c16_i32
  let v30 : Index := Scalar.indexCast v28
  ![0, v30.toNat]

def k0_chk1 (v32 : IVec S16 32) : Prop :=
  (∀ a x, ((![v32] : Fin 1 → IVec S16 32) a x).toNat < S1040.size a)
theorem k0_idx1_inb : ∀ (v32 : IVec S16 32) (k0_hw1 : k0_chk1 v32), ∀ a x, ((![v32] : Fin 1 → IVec S16 32) a x).toNat < S1040.size a := fun v32 k0_hw1 => k0_hw1
def k0_off8 (k0_t5 : Fin k0_t5_loop.trips) : Fin 2 → Nat :=
  let c1_i32_37 : BitVec 32 := 1#32
  let v34 : Index := Scalar.indexCast c1_i32_37
  let c0_i32_34 : BitVec 32 := 0#32
  let c0_i32_21 : BitVec 32 := 0#32
  let c1_i32_22 : BitVec 32 := 1#32
  let arg12 : BitVec 32 := Scf.iv c0_i32_21 c1_i32_22 k0_t5
  let c1_i32_33 : BitVec 32 := 1#32
  let v26 : BitVec 32 := Scalar.muli arg12 c1_i32_33
  let v27 : BitVec 32 := Scalar.addi c0_i32_34 v26
  let c16_i32_36 : BitVec 32 := 16#32
  let v33 : BitVec 32 := Scalar.muli v27 c16_i32_36
  let v35 : Index := Scalar.indexCast v33
  ![1, v35.toNat]

def k0_chk2 (v37 : IVec S16 32) : Prop :=
  (∀ a x, ((![v37] : Fin 1 → IVec S16 32) a x).toNat < S1040.size a)
theorem k0_idx2_inb : ∀ (v37 : IVec S16 32) (k0_hw2 : k0_chk2 v37), ∀ a x, ((![v37] : Fin 1 → IVec S16 32) a x).toNat < S1040.size a := fun v37 k0_hw2 => k0_hw2
def k0_off9 (k0_t5 : Fin k0_t5_loop.trips) : Fin 2 → Nat :=
  let c2_i32_39 : BitVec 32 := 2#32
  let v39 : Index := Scalar.indexCast c2_i32_39
  let c0_i32_34 : BitVec 32 := 0#32
  let c0_i32_21 : BitVec 32 := 0#32
  let c1_i32_22 : BitVec 32 := 1#32
  let arg12 : BitVec 32 := Scf.iv c0_i32_21 c1_i32_22 k0_t5
  let c1_i32_33 : BitVec 32 := 1#32
  let v26 : BitVec 32 := Scalar.muli arg12 c1_i32_33
  let v27 : BitVec 32 := Scalar.addi c0_i32_34 v26
  let c16_i32_38 : BitVec 32 := 16#32
  let v38 : BitVec 32 := Scalar.muli v27 c16_i32_38
  let v40 : Index := Scalar.indexCast v38
  ![2, v40.toNat]

def k0_chk3 (v42 : IVec S16 32) : Prop :=
  (∀ a x, ((![v42] : Fin 1 → IVec S16 32) a x).toNat < S1040.size a)
theorem k0_idx3_inb : ∀ (v42 : IVec S16 32) (k0_hw3 : k0_chk3 v42), ∀ a x, ((![v42] : Fin 1 → IVec S16 32) a x).toNat < S1040.size a := fun v42 k0_hw3 => k0_hw3
def k0_off10 (k0_t5 : Fin k0_t5_loop.trips) : Fin 2 → Nat :=
  let c3_i32_41 : BitVec 32 := 3#32
  let v44 : Index := Scalar.indexCast c3_i32_41
  let c0_i32_34 : BitVec 32 := 0#32
  let c0_i32_21 : BitVec 32 := 0#32
  let c1_i32_22 : BitVec 32 := 1#32
  let arg12 : BitVec 32 := Scf.iv c0_i32_21 c1_i32_22 k0_t5
  let c1_i32_33 : BitVec 32 := 1#32
  let v26 : BitVec 32 := Scalar.muli arg12 c1_i32_33
  let v27 : BitVec 32 := Scalar.addi c0_i32_34 v26
  let c16_i32_40 : BitVec 32 := 16#32
  let v43 : BitVec 32 := Scalar.muli v27 c16_i32_40
  let v45 : Index := Scalar.indexCast v43
  ![3, v45.toNat]

def k0_chk4 (v47 : IVec S16 32) : Prop :=
  (∀ a x, ((![v47] : Fin 1 → IVec S16 32) a x).toNat < S1040.size a)
theorem k0_idx4_inb : ∀ (v47 : IVec S16 32) (k0_hw4 : k0_chk4 v47), ∀ a x, ((![v47] : Fin 1 → IVec S16 32) a x).toNat < S1040.size a := fun v47 k0_hw4 => k0_hw4
@[reducible] def k0_t6_loop : Scf.Loop 32 :=
  let c0_i32_26 : BitVec 32 := 0#32
  let c256_i32_27 : BitVec 32 := 256#32
  let v21 : BitVec 32 := Scalar.addi c0_i32_26 c256_i32_27
  let c1_i32_28 : BitVec 32 := 1#32
  ⟨c0_i32_26, v21, c1_i32_28⟩
def k0_off11 (k0_t6 : Fin k0_t6_loop.trips) : Fin 2 → Nat :=
  let c0_i32_35 : BitVec 32 := 0#32
  let v29 : Index := Scalar.indexCast c0_i32_35
  let c0_i32_34 : BitVec 32 := 0#32
  let c0_i32_26 : BitVec 32 := 0#32
  let c1_i32_28 : BitVec 32 := 1#32
  let arg12 : BitVec 32 := Scf.iv c0_i32_26 c1_i32_28 k0_t6
  let c1_i32_33 : BitVec 32 := 1#32
  let v26 : BitVec 32 := Scalar.muli arg12 c1_i32_33
  let v27 : BitVec 32 := Scalar.addi c0_i32_34 v26
  let c16_i32 : BitVec 32 := 16#32
  let v28 : BitVec 32 := Scalar.muli v27 c16_i32
  let v30 : Index := Scalar.indexCast v28
  ![0, v30.toNat]

def k0_chk5 (v32 : IVec S16 32) : Prop :=
  (∀ a x, ((![v32] : Fin 1 → IVec S16 32) a x).toNat < S1040.size a)
theorem k0_idx5_inb : ∀ (v32 : IVec S16 32) (k0_hw5 : k0_chk5 v32), ∀ a x, ((![v32] : Fin 1 → IVec S16 32) a x).toNat < S1040.size a := fun v32 k0_hw5 => k0_hw5
def k0_off12 (k0_t6 : Fin k0_t6_loop.trips) : Fin 2 → Nat :=
  let c1_i32_37 : BitVec 32 := 1#32
  let v34 : Index := Scalar.indexCast c1_i32_37
  let c0_i32_34 : BitVec 32 := 0#32
  let c0_i32_26 : BitVec 32 := 0#32
  let c1_i32_28 : BitVec 32 := 1#32
  let arg12 : BitVec 32 := Scf.iv c0_i32_26 c1_i32_28 k0_t6
  let c1_i32_33 : BitVec 32 := 1#32
  let v26 : BitVec 32 := Scalar.muli arg12 c1_i32_33
  let v27 : BitVec 32 := Scalar.addi c0_i32_34 v26
  let c16_i32_36 : BitVec 32 := 16#32
  let v33 : BitVec 32 := Scalar.muli v27 c16_i32_36
  let v35 : Index := Scalar.indexCast v33
  ![1, v35.toNat]

def k0_chk6 (v37 : IVec S16 32) : Prop :=
  (∀ a x, ((![v37] : Fin 1 → IVec S16 32) a x).toNat < S1040.size a)
theorem k0_idx6_inb : ∀ (v37 : IVec S16 32) (k0_hw6 : k0_chk6 v37), ∀ a x, ((![v37] : Fin 1 → IVec S16 32) a x).toNat < S1040.size a := fun v37 k0_hw6 => k0_hw6
def k0_off13 (k0_t6 : Fin k0_t6_loop.trips) : Fin 2 → Nat :=
  let c2_i32_39 : BitVec 32 := 2#32
  let v39 : Index := Scalar.indexCast c2_i32_39
  let c0_i32_34 : BitVec 32 := 0#32
  let c0_i32_26 : BitVec 32 := 0#32
  let c1_i32_28 : BitVec 32 := 1#32
  let arg12 : BitVec 32 := Scf.iv c0_i32_26 c1_i32_28 k0_t6
  let c1_i32_33 : BitVec 32 := 1#32
  let v26 : BitVec 32 := Scalar.muli arg12 c1_i32_33
  let v27 : BitVec 32 := Scalar.addi c0_i32_34 v26
  let c16_i32_38 : BitVec 32 := 16#32
  let v38 : BitVec 32 := Scalar.muli v27 c16_i32_38
  let v40 : Index := Scalar.indexCast v38
  ![2, v40.toNat]

def k0_chk7 (v42 : IVec S16 32) : Prop :=
  (∀ a x, ((![v42] : Fin 1 → IVec S16 32) a x).toNat < S1040.size a)
theorem k0_idx7_inb : ∀ (v42 : IVec S16 32) (k0_hw7 : k0_chk7 v42), ∀ a x, ((![v42] : Fin 1 → IVec S16 32) a x).toNat < S1040.size a := fun v42 k0_hw7 => k0_hw7
def k0_off14 (k0_t6 : Fin k0_t6_loop.trips) : Fin 2 → Nat :=
  let c3_i32_41 : BitVec 32 := 3#32
  let v44 : Index := Scalar.indexCast c3_i32_41
  let c0_i32_34 : BitVec 32 := 0#32
  let c0_i32_26 : BitVec 32 := 0#32
  let c1_i32_28 : BitVec 32 := 1#32
  let arg12 : BitVec 32 := Scf.iv c0_i32_26 c1_i32_28 k0_t6
  let c1_i32_33 : BitVec 32 := 1#32
  let v26 : BitVec 32 := Scalar.muli arg12 c1_i32_33
  let v27 : BitVec 32 := Scalar.addi c0_i32_34 v26
  let c16_i32_40 : BitVec 32 := 16#32
  let v43 : BitVec 32 := Scalar.muli v27 c16_i32_40
  let v45 : Index := Scalar.indexCast v43
  ![3, v45.toNat]

def k0_chk8 (v47 : IVec S16 32) : Prop :=
  (∀ a x, ((![v47] : Fin 1 → IVec S16 32) a x).toNat < S1040.size a)
theorem k0_idx8_inb : ∀ (v47 : IVec S16 32) (k0_hw8 : k0_chk8 v47), ∀ a x, ((![v47] : Fin 1 → IVec S16 32) a x).toNat < S1040.size a := fun v47 k0_hw8 => k0_hw8
def k0_off15 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v22 : BitVec 32 := Scalar.addi v2 c0_i32_30
  let c0_i32_33_r0 : BitVec 32 := 0#32
  ![v22.toNat, 0]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c63_i32 : BitVec 32 := 63#32
  let c0_i32_0 : BitVec 32 := 0#32
  ![c0_i32.toNat, c63_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x1040 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x8192 : Shape := ⟨2, ![128, 8192]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S128x8192x1 : Shape := ⟨3, ![128, 8192, 1]⟩
abbrev S1 : Shape := ⟨1, ![1]⟩
abbrev S1x1x1 : Shape := ⟨3, ![1, 1, 1]⟩
abbrev S128x8192x64 : Shape := ⟨3, ![128, 8192, 64]⟩
abbrev S128x8192x128 : Shape := ⟨3, ![128, 8192, 128]⟩
abbrev S1x1x128 : Shape := ⟨3, ![1, 1, 128]⟩
abbrev S1x1x64 : Shape := ⟨3, ![1, 1, 64]⟩
abbrev S128x8189x64 : Shape := ⟨3, ![128, 8189, 64]⟩
abbrev S128x8189 : Shape := ⟨2, ![128, 8189]⟩
abbrev S128x6 : Shape := ⟨2, ![128, 6]⟩
abbrev S128x6x1 : Shape := ⟨3, ![128, 6, 1]⟩
abbrev S128x6x64 : Shape := ⟨3, ![128, 6, 64]⟩
abbrev S128x1x64 : Shape := ⟨3, ![128, 1, 64]⟩
abbrev S1x64 : Shape := ⟨2, ![1, 64]⟩
abbrev S128x1x6 : Shape := ⟨3, ![128, 1, 6]⟩
abbrev S128x1 : Shape := ⟨2, ![128, 1]⟩
abbrev S128x1x1 : Shape := ⟨3, ![128, 1, 1]⟩

abbrev nBuf : Space → Nat
  | .hbm => 137
  | .vmem => 0
  | .smem => 0
  | _ => 0

abbrev hbmTy0_0 (i : Nat) : BufTy := match i % 128 with
  | 0 => ⟨S128x8192, .i32⟩
  | 1 => ⟨S64x64, .f32⟩
  | 2 => ⟨S64x128, .f32⟩
  | 3 => ⟨S128, .f32⟩
  | 4 => ⟨S128x64, .f32⟩
  | 5 => ⟨S64, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S_, .i32⟩
  | 13 => ⟨S128x8192, .i32⟩
  | 14 => ⟨S128x8192, .i1⟩
  | 15 => ⟨S_, .i32⟩
  | 16 => ⟨S128x8192, .i32⟩
  | 17 => ⟨S128x8192, .i32⟩
  | 18 => ⟨S128x8192, .i32⟩
  | 19 => ⟨S128x8192x1, .i32⟩
  | 20 => ⟨S1, .i32⟩
  | 21 => ⟨S_, .i32⟩
  | 22 => ⟨S128x8192x1, .i32⟩
  | 23 => ⟨S128x8192x1, .i1⟩
  | 24 => ⟨S1x1x1, .i32⟩
  | 25 => ⟨S128x8192x1, .i32⟩
  | 26 => ⟨S128x8192x1, .i1⟩
  | 27 => ⟨S128x8192x1, .i1⟩
  | 28 => ⟨S_, .i1⟩
  | 29 => ⟨S128x8192, .i1⟩
  | 30 => ⟨S128x8192x64, .f32⟩
  | 31 => ⟨S128x8192x64, .i1⟩
  | 32 => ⟨S_, .f32⟩
  | 33 => ⟨S128x8192x64, .f32⟩
  | 34 => ⟨S128x8192x64, .f32⟩
  | 35 => ⟨S128x8192x128, .f32⟩
  | 36 => ⟨S1x1x128, .f32⟩
  | 37 => ⟨S128x8192x128, .f32⟩
  | 38 => ⟨S128x8192x128, .f32⟩
  | 39 => ⟨S_, .f32⟩
  | 40 => ⟨S128x8192x128, .f32⟩
  | 41 => ⟨S128x8192x128, .f32⟩
  | 42 => ⟨S128x8192x64, .f32⟩
  | 43 => ⟨S1x1x64, .f32⟩
  | 44 => ⟨S128x8192x64, .f32⟩
  | 45 => ⟨S128x8192x64, .f32⟩
  | 46 => ⟨S128x8192x64, .f32⟩
  | 47 => ⟨S_, .f32⟩
  | 48 => ⟨S128x8192, .f32⟩
  | 49 => ⟨S128x8192x1, .f32⟩
  | 50 => ⟨S_, .f32⟩
  | 51 => ⟨S128x8192x1, .f32⟩
  | 52 => ⟨S128x8192x1, .f32⟩
  | 53 => ⟨S128x8192x64, .f32⟩
  | 54 => ⟨S128x8192x64, .f32⟩
  | 55 => ⟨S128x8192x64, .f32⟩
  | 56 => ⟨S_, .f32⟩
  | 57 => ⟨S128x8192, .f32⟩
  | 58 => ⟨S128x8192x1, .f32⟩
  | 59 => ⟨S_, .f32⟩
  | 60 => ⟨S128x8192x1, .f32⟩
  | 61 => ⟨S128x8192x1, .f32⟩
  | 62 => ⟨S128x8192x64, .f32⟩
  | 63 => ⟨S128x8192x64, .f32⟩
  | 64 => ⟨S_, .f32⟩
  | 65 => ⟨S128x8192x1, .f32⟩
  | 66 => ⟨S128x8192x1, .f32⟩
  | 67 => ⟨S128x8192x1, .f32⟩
  | 68 => ⟨S128x8192x64, .f32⟩
  | 69 => ⟨S128x8192x64, .f32⟩
  | 70 => ⟨S1x1x64, .f32⟩
  | 71 => ⟨S128x8192x64, .f32⟩
  | 72 => ⟨S128x8192x64, .f32⟩
  | 73 => ⟨S1x1x64, .f32⟩
  | 74 => ⟨S128x8192x64, .f32⟩
  | 75 => ⟨S128x8192x64, .f32⟩
  | 76 => ⟨S128x8189x64, .f32⟩
  | 77 => ⟨S128x8189x64, .f32⟩
  | 78 => ⟨S_, .f32⟩
  | 79 => ⟨S128x8189, .f32⟩
  | 80 => ⟨S128x8189, .f32⟩
  | 81 => ⟨S128x6, .f32⟩
  | 82 => ⟨S128x6, .i32⟩
  | 83 => ⟨S128x6x1, .i32⟩
  | 84 => ⟨S_, .i32⟩
  | 85 => ⟨S128x6x1, .i32⟩
  | 86 => ⟨S128x6x1, .i1⟩
  | 87 => ⟨S_, .i32⟩
  | 88 => ⟨S128x6x1, .i32⟩
  | 89 => ⟨S128x6x1, .i32⟩
  | 90 => ⟨S128x6x1, .i32⟩
  | 91 => ⟨S1, .i32⟩
  | 92 => ⟨S_, .i32⟩
  | 93 => ⟨S128x6x1, .i32⟩
  | 94 => ⟨S128x6x1, .i1⟩
  | 95 => ⟨S1x1x1, .i32⟩
  | 96 => ⟨S128x6x1, .i32⟩
  | 97 => ⟨S128x6x1, .i1⟩
  | 98 => ⟨S128x6x1, .i1⟩
  | 99 => ⟨S_, .i1⟩
  | 100 => ⟨S128x6, .i1⟩
  | 101 => ⟨S128x6x64, .f32⟩
  | 102 => ⟨S128x6x64, .i1⟩
  | 103 => ⟨S_, .f32⟩
  | 104 => ⟨S128x6x64, .f32⟩
  | 105 => ⟨S128x6x64, .f32⟩
  | 106 => ⟨S128x1x64, .f32⟩
  | 107 => ⟨S128x64, .f32⟩
  | 108 => ⟨S128x64, .f32⟩
  | 109 => ⟨S1x64, .f32⟩
  | 110 => ⟨S128x64, .f32⟩
  | 111 => ⟨S128x64, .f32⟩
  | 112 => ⟨S128x1x64, .f32⟩
  | 113 => ⟨S128x1x6, .f32⟩
  | 114 => ⟨S_, .f32⟩
  | 115 => ⟨S128x1x6, .f32⟩
  | 116 => ⟨S128x1x6, .f32⟩
  | 117 => ⟨S_, .f32⟩
  | 118 => ⟨S128x1, .f32⟩
  | 119 => ⟨S_, .f32⟩
  | 120 => ⟨S128x1, .f32⟩
  | 121 => ⟨S128x1, .f32⟩
  | 122 => ⟨S128x1x1, .f32⟩
  | 123 => ⟨S128x1x6, .f32⟩
  | 124 => ⟨S128x1x6, .f32⟩
  | 125 => ⟨S128x1x6, .f32⟩
  | 126 => ⟨S_, .f32⟩
  | 127 => ⟨S128x1, .f32⟩
  | _ => ⟨S128x8192, .i32⟩

abbrev hbmTy0_1 (i : Nat) : BufTy := match i % 128 with
  | 0 => ⟨S128x1x1, .f32⟩
  | 1 => ⟨S128x1x6, .f32⟩
  | 2 => ⟨S128x1x6, .f32⟩
  | 3 => ⟨S128x1x64, .f32⟩
  | 4 => ⟨S128x64, .f32⟩
  | 5 => ⟨S128x64, .f32⟩
  | 6 => ⟨S1x64, .f32⟩
  | 7 => ⟨S128x64, .f32⟩
  | 8 => ⟨S128x64, .f32⟩
  | _ => ⟨S128x8192, .i32⟩

abbrev hbmTy (i : Nat) : BufTy := match i / 128 with
  | 0 => hbmTy0_0 i
  | 1 => hbmTy0_1 i
  | _ => ⟨S128x8192, .i32⟩

abbrev bufTy : (tb : Table) → Fin (tcTables nBuf tb) → BufTy
  | .hbm, ⟨i, _⟩ => hbmTy i
  | _, _ => ⟨S128x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_0 : Ref sig .tc := ⟨.hbm, 47, rfl⟩
abbrev main_v12 : Ref sig .tc := ⟨.hbm, 48, rfl⟩
abbrev main_v13 : Ref sig .tc := ⟨.hbm, 49, rfl⟩
abbrev main_cst_1 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_2 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_4 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_5 : Ref sig .tc := ⟨.hbm, 78, rfl⟩
abbrev main_v38 : Ref sig .tc := ⟨.hbm, 79, rfl⟩
abbrev main_v39 : Ref sig .tc := ⟨.hbm, 80, rfl⟩
abbrev main_values : Ref sig .tc := ⟨.hbm, 81, rfl⟩
abbrev main_indices : Ref sig .tc := ⟨.hbm, 82, rfl⟩
abbrev main_v40 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_c_1 : Ref sig .tc := ⟨.hbm, 91, rfl⟩
abbrev main_call1_c_2 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_c_3 : Ref sig .tc := ⟨.hbm, 99, rfl⟩
abbrev main_call1_v11 : Ref sig .tc := ⟨.hbm, 100, rfl⟩
abbrev main_call1_v12 : Ref sig .tc := ⟨.hbm, 101, rfl⟩
abbrev main_call1_v13 : Ref sig .tc := ⟨.hbm, 102, rfl⟩
abbrev main_call1_cst : Ref sig .tc := ⟨.hbm, 103, rfl⟩
abbrev main_call1_v14 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_cst_6 : Ref sig .tc := ⟨.hbm, 114, rfl⟩
abbrev main_v50 : Ref sig .tc := ⟨.hbm, 115, rfl⟩
abbrev main_v51 : Ref sig .tc := ⟨.hbm, 116, rfl⟩
abbrev main_cst_7 : Ref sig .tc := ⟨.hbm, 117, rfl⟩
abbrev main_v52 : Ref sig .tc := ⟨.hbm, 118, rfl⟩
abbrev main_cst_8 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_9 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩

abbrev nD : Nat := 1
abbrev τ : Topo := Topo.v7x

variable {F : FTy → Type} [FloatOps F]
-- ==== Proof.Hist.lean ====
/-
  The histogram that one vector subcore builds, as numbers.

  A row `s` of the token array is read sixteen tokens at a time: group `g` is the tokens at places `16 g + lane`. Lane
  `lane` owns the 65 counters `65 lane … 65 lane + 64` of a row of 1040, and counts the token `v` in counter
  `65 lane + v`. `histN s n` is what the counters hold after `n` groups, and one scattered addition of ones at the
  places `65 lane + s (16 n + lane)` takes it to `histN s (n + 1)` (`storeIdx_hist`).
-/
module

public import proofs.«01_k».proof.Defs
public import Idealize.ShloMosaic.Lib.ValueIdxCore

@[expose] public section

noncomputable section

namespace Cert.Proof

open Idealize.ShloMosaic Idealize.ShloMosaic.ValueIdx
open Cert.KernelIdeal (S128x8192 S128x1040 S1040 S16 S4x4096 S1x16)

/-- Row `b` of the token array as numbers, zero outside the array. -/
def srow (S : IVec S128x8192 32) (b p : ℕ) : ℕ :=
  if h : b < 128 ∧ p < 8192 then (S (ix2 ⟨b, h.1⟩ ⟨p, h.2⟩)).toNat else 0

theorem srow_of_lt (S : IVec S128x8192 32) {b p : ℕ} (hb : b < 128) (hp : p < 8192) :
    srow S b p = (S (ix2 ⟨b, hb⟩ ⟨p, hp⟩)).toNat := dif_pos ⟨hb, hp⟩

/-- Every token is below 64. -/
def Small (S : IVec S128x8192 32) : Prop := ∀ j, (S j).toNat < 64

theorem srow_lt {S : IVec S128x8192 32} (h : Small S) (b p : ℕ) : srow S b p < 64 := by
  unfold srow; split
  · exact h _
  · omega

/-- Counter `j` after the first `n` groups: how many of them hold the token `j % 65` at lane `j / 65`. -/
def histC (s : ℕ → ℕ) (n j : ℕ) : ℕ := ((Finset.range n).filter fun g => s (16 * g + j / 65) = j % 65).card

/-- The same as a machine word. -/
def histN (s : ℕ → ℕ) (n j : ℕ) : BitVec 32 := BitVec.ofNat 32 (histC s n j)

theorem histC_succ (s : ℕ → ℕ) (n j : ℕ) :
    histC s (n + 1) j = histC s n j + if s (16 * n + j / 65) = j % 65 then 1 else 0 := by
  unfold histC
  rw [Finset.range_add_one, Finset.filter_insert]
  split
  · rw [Finset.card_insert_of_notMem (by simp)]
  · simp

theorem histN_succ (s : ℕ → ℕ) (n j : ℕ) :
    histN s (n + 1) j = if s (16 * n + j / 65) = j % 65 then histN s n j + 1#32 else histN s n j := by
  unfold histN; rw [histC_succ]
  split
  · rw [BitVec.ofNat_add]
  · rfl

/-- The 1040 counters of a row after `n` groups. -/
def histV (s : ℕ → ℕ) (n : ℕ) : IVec S1040 32 := fun j => histN s n (j 0).val

theorem histV_zero (s : ℕ → ℕ) : histV s 0 = fun _ => 0#32 := by
  funext j; simp [histV, histN, histC]

/-- What the whole call leaves: every row's counters after its 512 groups. -/
def histAll (S : IVec S128x8192 32) : IVec S128x1040 32 := fun j => histN (srow S (j 0).val) 512 (j 1).val

variable {F : FTy → Type} [FloatOps F]

/-- A fold of additions of one at pairwise different places adds one at each of the places. -/
theorem foldl_add_one {N : ℕ} {ι : Type} (t : ι → (⟨1, ![N]⟩ : Shape).Idx) (l : List ι) (hl : l.Nodup)
    (ht : ∀ a b, t a = t b → a = b) (one : ι → BitVec 32) (hone : ∀ k, one k = 1#32)
    (f : IVec ⟨1, ![N]⟩ 32) (j : (⟨1, ![N]⟩ : Shape).Idx) :
    l.foldl (fun g k => fun j => if ∀ a, (j a).val = (t k a).val then Elt.idxAdd (F := F) .i32 (g (t k)) (one k) else g j) f j
      = if ∃ k ∈ l, j = t k then f j + 1#32 else f j := by
  induction l generalizing f with
  | nil => simp
  | cons a l ih =>
    rw [List.foldl_cons, ih (List.nodup_cons.1 hl).2]
    have hi : (∀ b, (j b).val = (t a b).val) ↔ j = t a :=
      ⟨fun e => funext fun b => Fin.ext (e b), fun e b => by rw [e]⟩
    by_cases h1 : j = t a
    · have h2 : ¬ ∃ k ∈ l, j = t k := by
        rintro ⟨k, hk, e⟩
        exact (List.nodup_cons.1 hl).1 (ht _ _ (h1.symm.trans e) ▸ hk)
      rw [if_neg h2, if_pos (hi.2 h1), if_pos ⟨a, List.mem_cons_self, h1⟩, h1, hone]
      rfl
    · rw [if_neg (fun e => h1 (hi.1 e))]
      by_cases h2 : ∃ k ∈ l, j = t k
      · obtain ⟨k, hk, e⟩ := h2
        rw [if_pos ⟨k, hk, e⟩, if_pos ⟨k, List.mem_cons_of_mem _ hk, e⟩]
      · rw [if_neg h2, if_neg]
        rintro ⟨k, hk, e⟩
        rcases List.mem_cons.1 hk with rfl | hk
        · exact h1 e
        · exact h2 ⟨k, hk, e⟩

/-- A scattered addition of ones at pairwise different places adds one at each of them. -/
theorem storeIdx_add_one {N : ℕ} {d : Fin 1 → ℕ} (f : Vec F ⟨1, ![N]⟩ .i32)
    (idxs : Fin (⟨1, ![N]⟩ : Shape).rank → IVec ⟨1, d⟩ 32) (one : Vec F ⟨1, d⟩ .i32)
    (hone : ∀ x, one x = (1#32 : BitVec 32)) (h : ∀ a x, (idxs a x).toNat < (⟨1, ![N]⟩ : Shape).size a)
    (inj : ∀ k k' : Fin (d 0), idxAt idxs h (Shape.ofLane k) = idxAt idxs h (Shape.ofLane k') → k = k')
    (j : (⟨1, ![N]⟩ : Shape).Idx) :
    storeIdx f idxs one (fun _ => 1#1) true h j
      = (if ∃ k ∈ List.finRange (d 0), j = idxAt idxs h (Shape.ofLane k) then (f j : BitVec 32) + 1#32 else f j : BitVec 32) := by
  unfold storeIdx
  simp only [show ((1#1 : BitVec 1) = 1) = True from eq_true rfl, if_true]
  exact (foldl_add_one (F := F) (fun k => idxAt idxs h (Shape.ofLane k)) _ (List.nodup_finRange _) inj
    (fun k => one (Shape.ofLane k)) (fun _ => hone _) f j).trans (by congr)

/-- One scattered addition of ones, lane `x` at place `65 x + s (16 n + x)`, is one more group counted. -/
theorem storeIdx_hist {s : ℕ → ℕ} (hs : ∀ p, s p < 64) (n : ℕ) (v : IVec S16 32)
    (hv : ∀ x : S16.Idx, (v x).toNat = 65 * (x 0).val + s (16 * n + (x 0).val)) (one : IVec S16 32)
    (hone : ∀ x, one x = 1#32) (h : ∀ a x, ((![v] : Fin 1 → IVec S16 32) a x).toNat < S1040.size a) :
    storeIdx (F := F) (s := S1040) (e := .i32) (histV s n) ![v] one (fun _ => 1#1) true h = histV s (n + 1) := by
  have hat : ∀ k : Fin ((![16] : Fin 1 → ℕ) 0), (idxAt (s := S1040) ![v] h (Shape.ofLane k) 0).val = 65 * k.val + s (16 * n + k.val) :=
    fun k => hv (Shape.ofLane k)
  funext j
  refine (storeIdx_add_one (F := F) (N := 1040) (d := ![16]) (histV s n) ![v] one hone h ?_ j).trans ?_
  · intro k k' e
    have e0 := (hat k).symm.trans ((congrArg (fun i : S1040.Idx => (i 0).val) e).trans (hat k'))
    have ha := hs (16 * n + k.val); have hb := hs (16 * n + k'.val)
    apply Fin.ext; omega
  show _ = histN s (n + 1) (j 0).val
  rw [histN_succ]
  have hj : (j 0).val < 1040 := (j 0).isLt
  have : (∃ k ∈ List.finRange ((![16] : Fin 1 → ℕ) 0), j = idxAt (s := S1040) ![v] h (Shape.ofLane k))
      ↔ s (16 * n + (j 0).val / 65) = (j 0).val % 65 := by
    constructor
    · rintro ⟨k, -, e⟩
      have e0 := (congrArg (fun i : S1040.Idx => (i 0).val) e).trans (hat k)
      simp only at e0
      have := hs (16 * n + k.val)
      have h1 : (j 0).val / 65 = k.val := by omega
      rw [h1]; omega
    · intro e
      have hlt : (j 0).val / 65 < 16 := by omega
      refine ⟨⟨(j 0).val / 65, hlt⟩, List.mem_finRange _, ?_⟩
      funext a
      match a with
      | ⟨0, _⟩ =>
        apply Fin.ext
        refine Eq.trans ?_ (hat ⟨(j 0).val / 65, hlt⟩).symm
        show (j 0).val = _
        simp only; omega
  exact if_congr this rfl rfl

end Cert.Proof

end
-- ==== Proof.Setup.lean ====
/-
  The kernel's launch as the proof sees it: the SparseCore call and the two TensorCore calls of one program, the ghost
  state (the handshakes' rounds, the pipelines' rounds, the transfers' counters), the two arrays the SparseCore call
  touches and how their elements are dealt to the tiles.

  Tile `(c, i)` — SparseCore `c`, vector subcore `i` — owns rows `4 (2 i + c) … 4 (2 i + c) + 3` of the token array, in
  two halves of 4096 columns, and the same four rows of the result.
-/
module

public import proofs.«01_k».proof.Defs
public import proofs.«01_k».proof.Proof.Hist
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

/-! ## The program -/

/-- The program's labels below the SparseCore launch: the kernel bodies and the two pipelines. -/
abbrev ΛP : Labels := Pipeline.Sig Λ₀ (Fin 2) fun p => (pcfgs (F := F) p).Adm
/-- The SparseCore launch. -/
abbrev K : SparseCore.Cfg τ sig (ΛP (F := F)) 1 := sc (F := F)
theorem nSub_zero : (K (F := F)).nSub 0 = 16 := rfl
theorem nCore_zero : (K (F := F)).nCore 0 = 2 := rfl
/-- The body table below the SparseCore launch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds, the pipelines' rounds. -/
abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The two arrays of the SparseCore call -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

/-- The token array at launch, and what the call leaves in its result. -/
abbrev seqOf (d : Dev nD) : IVec S128x8192 32 := m (xLoc d)
abbrev histOf (d : Dev nD) : Buf (Elt F) (oLoc d) := histAll (seqOf m d)

/-- Every device's tokens are below 64. -/
def SmallAll : Prop := ∀ d, Small (seqOf m d)

/-! ## How the elements are dealt -/

/-- The rows of SparseCore `c`, of its tile `i`, and the half `h` of those. -/
def xCore (c : ℕ) : Finset S128x8192.Idx := Finset.univ.filter fun j => (j 0).val / 4 % 2 = c
def xTile (c i : ℕ) : Finset S128x8192.Idx := Finset.univ.filter fun j => (j 0).val / 4 % 2 = c ∧ (j 0).val / 4 / 2 = i
def xHalf (c i h : ℕ) : Finset S128x8192.Idx :=
  Finset.univ.filter fun j => (j 0).val / 4 % 2 = c ∧ (j 0).val / 4 / 2 = i ∧ (j 1).val / 4096 = h
def oCore (c : ℕ) : Finset S128x1040.Idx := Finset.univ.filter fun j => (j 0).val / 4 % 2 = c
def oTile (c i : ℕ) : Finset S128x1040.Idx := Finset.univ.filter fun j => (j 0).val / 4 % 2 = c ∧ (j 0).val / 4 / 2 = i
def oRow (c i r : ℕ) : Finset S128x1040.Idx := Finset.univ.filter fun j => (j 0).val / 4 % 2 = c ∧ (j 0).val / 4 / 2 = i ∧ (j 0).val % 4 = r

/-- A points-to over a set whose elements have keys below `n` is one over each key's elements. -/
theorem pointsTo_keys {ℓ : Loc nD τ sig} (f : Buf (Elt F) ℓ) {n : ℕ} (I : Finset (Idx ℓ)) (J : ℕ → Finset (Idx ℓ)) (key : Idx ℓ → ℕ)
    (hJ : ∀ k j, j ∈ J k ↔ j ∈ I ∧ key j = k) (hk : ∀ j ∈ I, key j < n) :
    (ℓ ↦[I]{fullShare} f : sProp 𝕄) = bigSep Finset.univ fun k : Fin n => ℓ ↦[J k.val]{fullShare} f := by
  rw [← pointsTo_biUnion Finset.univ (ℓ := ℓ) (fun k : Fin n => J k.val)]
  · congr 1
    ext j
    rw [Finset.mem_biUnion]
    constructor
    · intro h
      exact ⟨⟨key j, hk j h⟩, Finset.mem_univ _, (hJ _ _).2 ⟨h, rfl⟩⟩
    · rintro ⟨k, _, h⟩
      exact ((hJ _ _).1 h).1
  · intro k _ k' _ hne
    refine Finset.disjoint_left.2 fun j h1 h2 => hne (Fin.ext ?_)
    exact ((hJ _ _).1 h1).2.symm.trans ((hJ _ _).1 h2).2

/-- The keys: a row's SparseCore, its tile there, its place in the tile's four, and a column's half. -/
def xKeyC (j : S128x8192.Idx) : ℕ := (j 0).val / 4 % 2
def xKeyI (j : S128x8192.Idx) : ℕ := (j 0).val / 4 / 2
def xKeyH (j : S128x8192.Idx) : ℕ := (j 1).val / 4096
def oKeyC (j : S128x1040.Idx) : ℕ := (j 0).val / 4 % 2
def oKeyI (j : S128x1040.Idx) : ℕ := (j 0).val / 4 / 2
def oKeyR (j : S128x1040.Idx) : ℕ := (j 0).val % 4

theorem mem_xCore (c : ℕ) (j : S128x8192.Idx) : j ∈ xCore c ↔ j ∈ (Finset.univ : Finset S128x8192.Idx) ∧ xKeyC j = c := by
  simp [xCore, xKeyC]
theorem mem_xTile (c i : ℕ) (j : S128x8192.Idx) : j ∈ xTile c i ↔ j ∈ xCore c ∧ xKeyI j = i := by
  simp [xTile, xCore, xKeyI]
theorem mem_xHalf (c i h : ℕ) (j : S128x8192.Idx) : j ∈ xHalf c i h ↔ j ∈ xTile c i ∧ xKeyH j = h := by
  simp [xTile, xHalf, xKeyH, and_assoc]
theorem mem_oCore (c : ℕ) (j : S128x1040.Idx) : j ∈ oCore c ↔ j ∈ (Finset.univ : Finset S128x1040.Idx) ∧ oKeyC j = c := by
  simp [oCore, oKeyC]
theorem mem_oTile (c i : ℕ) (j : S128x1040.Idx) : j ∈ oTile c i ↔ j ∈ oCore c ∧ oKeyI j = i := by
  simp [oTile, oCore, oKeyI]
theorem mem_oRow (c i r : ℕ) (j : S128x1040.Idx) : j ∈ oRow c i r ↔ j ∈ oTile c i ∧ oKeyR j = r := by
  simp [oTile, oRow, oKeyR, and_assoc]

theorem xKeyC_lt (j : S128x8192.Idx) : xKeyC j < 2 := Nat.mod_lt _ (by decide)
theorem xKeyI_lt (j : S128x8192.Idx) : xKeyI j < 16 := by have := idx2_lt0 j; unfold xKeyI; omega
theorem xKeyH_lt (j : S128x8192.Idx) : xKeyH j < 2 := by have := idx2_lt1 j; unfold xKeyH; omega
theorem oKeyC_lt (j : S128x1040.Idx) : oKeyC j < 2 := Nat.mod_lt _ (by decide)
theorem oKeyI_lt (j : S128x1040.Idx) : oKeyI j < 16 := by have := idx2_lt0 j; unfold oKeyI; omega
theorem oKeyR_lt (j : S128x1040.Idx) : oKeyR j < 4 := Nat.mod_lt _ (by decide)

attribute [local irreducible] xKeyC xKeyI xKeyH oKeyC oKeyI oKeyR xCore xTile xHalf oCore oTile oRow

theorem x_cores (d : Dev nD) (f : Buf (Elt F) (xLoc d)) :
    (xLoc d ↦{fullShare} f : sProp 𝕄) = bigSep Finset.univ fun c : Fin 2 => xLoc d ↦[xCore c.val]{fullShare} f :=
  pointsTo_keys (ℓ := xLoc d) f Finset.univ xCore xKeyC mem_xCore fun j _ => xKeyC_lt j
theorem x_tiles (d : Dev nD) (c : ℕ) (f : Buf (Elt F) (xLoc d)) :
    (xLoc d ↦[xCore c]{fullShare} f : sProp 𝕄) = bigSep Finset.univ fun i : Fin 16 => xLoc d ↦[xTile c i.val]{fullShare} f :=
  pointsTo_keys (ℓ := xLoc d) f (xCore c) (xTile c) xKeyI (mem_xTile c) fun j _ => xKeyI_lt j
theorem x_halves (d : Dev nD) (c i : ℕ) (f : Buf (Elt F) (xLoc d)) :
    (xLoc d ↦[xTile c i]{fullShare} f : sProp 𝕄)
      = iprop((xLoc d ↦[xHalf c i 0]{fullShare} f) ∗ xLoc d ↦[xHalf c i 1]{fullShare} f) :=
  (pointsTo_keys (ℓ := xLoc d) (n := 2) f (xTile c i) (xHalf c i) xKeyH (mem_xHalf c i) fun j _ => xKeyH_lt j).trans
    (BI.bigSep_fin_two _)
theorem o_cores (d : Dev nD) (f : Buf (Elt F) (oLoc d)) :
    (oLoc d ↦{fullShare} f : sProp 𝕄) = bigSep Finset.univ fun c : Fin 2 => oLoc d ↦[oCore c.val]{fullShare} f :=
  pointsTo_keys (ℓ := oLoc d) f Finset.univ oCore oKeyC mem_oCore fun j _ => oKeyC_lt j
theorem o_tiles (d : Dev nD) (c : ℕ) (f : Buf (Elt F) (oLoc d)) :
    (oLoc d ↦[oCore c]{fullShare} f : sProp 𝕄) = bigSep Finset.univ fun i : Fin 16 => oLoc d ↦[oTile c i.val]{fullShare} f :=
  pointsTo_keys (ℓ := oLoc d) f (oCore c) (oTile c) oKeyI (mem_oTile c) fun j _ => oKeyI_lt j

theorem bigSep_fin_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem o_rows (d : Dev nD) (c i : ℕ) (f : Buf (Elt F) (oLoc d)) :
    (oLoc d ↦[oTile c i]{fullShare} f : sProp 𝕄)
      = iprop((oLoc d ↦[oRow c i 0]{fullShare} f) ∗ (oLoc d ↦[oRow c i 1]{fullShare} f)
          ∗ (oLoc d ↦[oRow c i 2]{fullShare} f) ∗ oLoc d ↦[oRow c i 3]{fullShare} f) :=
  (pointsTo_keys (ℓ := oLoc d) (n := 4) f (oTile c i) (oRow c i) oKeyR (mem_oRow c i) fun j _ => oKeyR_lt j).trans
    (bigSep_fin_four _)

/-! ## What the handshakes carry -/

variable [FloatOps F]

/-- A tile takes its two half blocks of the tokens and its rows of the result, and brings them back, the rows at the counters
    of its rows; a SparseCore takes and brings back its tiles' together. Nothing else is dealt. -/
def P : (K (F := F)).Pay (nD := nD) (Val := Elt F) (Name := ℕ) (U := UU) where
  st := fun q d c => match q with
    | 0 => iprop((xLoc d ↦[xCore c.val]{fullShare} m (xLoc d)) ∗ oLoc d ↦[oCore c.val]{fullShare} m (oLoc d))
  dn := fun q d c => match q with
    | 0 => iprop((xLoc d ↦[xCore c.val]{fullShare} m (xLoc d)) ∗ oLoc d ↦[oCore c.val]{fullShare} histOf m d)
  go := fun q d c i => match q with
    | 0 => iprop((xLoc d ↦[xTile c.val i.val]{fullShare} m (xLoc d)) ∗ oLoc d ↦[oTile c.val i.val]{fullShare} m (oLoc d))
  td := fun q d c i => match q with
    | 0 => iprop((xLoc d ↦[xTile c.val i.val]{fullShare} m (xLoc d)) ∗ oLoc d ↦[oTile c.val i.val]{fullShare} histOf m d)
  x := fun _ _ => iprop(emp)

instance P_storable : (P (F := F) m).IsStorable where
  st q d c := match q with
    | 0 => (inferInstance : BI.Storable (upEmb : UEmb _ 𝕄)
        iprop((xLoc d ↦[xCore c.val]{fullShare} m (xLoc d)) ∗ oLoc d ↦[oCore c.val]{fullShare} m (oLoc d)))
  dn q d c := match q with
    | 0 => (inferInstance : BI.Storable (upEmb : UEmb _ 𝕄)
        iprop((xLoc d ↦[xCore c.val]{fullShare} m (xLoc d)) ∗ oLoc d ↦[oCore c.val]{fullShare} histOf m d))
  go q d c i := match q with
    | 0 => (inferInstance : BI.Storable (upEmb : UEmb _ 𝕄)
        iprop((xLoc d ↦[xTile c.val i.val]{fullShare} m (xLoc d)) ∗ oLoc d ↦[oTile c.val i.val]{fullShare} m (oLoc d)))
  td q d c i := match q with
    | 0 => (inferInstance : BI.Storable (upEmb : UEmb _ 𝕄)
        iprop((xLoc d ↦[xTile c.val i.val]{fullShare} m (xLoc d)) ∗ oLoc d ↦[oTile c.val i.val]{fullShare} histOf m d))

theorem vecSplit : (K (F := F)).VecSplit' (P m) 0 := by
  intro d c
  show iprop((xLoc d ↦[xCore c.val]{fullShare} m (xLoc d)) ∗ oLoc d ↦[oCore c.val]{fullShare} m (oLoc d)) ⊢ |={Set.univ}=> iprop(
      (bigSep Finset.univ fun i : Fin 16 =>
        iprop((xLoc d ↦[xTile c.val i.val]{fullShare} m (xLoc d)) ∗ oLoc d ↦[oTile c.val i.val]{fullShare} m (oLoc d)))
      ∗ ((bigSep Finset.univ fun i : Fin 16 =>
        iprop((xLoc d ↦[xTile c.val i.val]{fullShare} m (xLoc d)) ∗ oLoc d ↦[oTile c.val i.val]{fullShare} histOf m d))
          -∗ iprop((xLoc d ↦[xCore c.val]{fullShare} m (xLoc d)) ∗ oLoc d ↦[oCore c.val]{fullShare} histOf m d)))
  rw [bigSep_sep', bigSep_sep', x_tiles, o_tiles, o_tiles]
  iintro H; imodintro
  isplitl [H]; · iexact H
  iintro H; iexact H

end Cert.Proof

end
-- ==== Proof.TileGeo.lean ====
/-
  The pieces of the arrays a tile touches, in the kernel's spelling: which elements they have and how its scratch buffers
  read and write through them.
-/
module

public import proofs.«01_k».proof.Proof.Setup
public import Idealize.ShloMosaic.Lib.Pipeline.Value
public import Idealize.ShloMosaic.Lib.WritesUnit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S128x8192 EltTy.i32)
local notation "oV" => (Memref.whole Cert.KernelIdeal.main_v0_scv : Memref Cert.KernelIdeal.sig Kind.scVector Space.hbm Cert.KernelIdeal.S128x1040 EltTy.i32)
local notation "bA" => (Memref.whole Cert.KernelIdeal.cc0_scratch0 : Memref Cert.KernelIdeal.sig Kind.scVector Space.vmem Cert.KernelIdeal.S4x4096 EltTy.i32)
local notation "bB" => (Memref.whole Cert.KernelIdeal.cc0_scratch1 : Memref Cert.KernelIdeal.sig Kind.scVector Space.vmem Cert.KernelIdeal.S4x4096 EltTy.i32)
local notation "gR0" => (Memref.whole Cert.KernelIdeal.cc0_scratch2 : Memref Cert.KernelIdeal.sig Kind.scVector Space.vmem Cert.KernelIdeal.S1040 EltTy.i32)
local notation "gR1" => (Memref.whole Cert.KernelIdeal.cc0_scratch3 : Memref Cert.KernelIdeal.sig Kind.scVector Space.vmem Cert.KernelIdeal.S1040 EltTy.i32)
local notation "gR2" => (Memref.whole Cert.KernelIdeal.cc0_scratch4 : Memref Cert.KernelIdeal.sig Kind.scVector Space.vmem Cert.KernelIdeal.S1040 EltTy.i32)
local notation "gR3" => (Memref.whole Cert.KernelIdeal.cc0_scratch5 : Memref Cert.KernelIdeal.sig Kind.scVector Space.vmem Cert.KernelIdeal.S1040 EltTy.i32)

abbrev cV (L : grid0.Coords) : Fin τ.nSC := (L 0).castLE hcore0
abbrev jV (L : grid0.Coords) : Fin τ.nSub := (L 1).castLE hsub0

theorem bnd0 (L : grid0.Coords) : (L 0).val < 2 := (L 0).isLt
theorem bnd1 (L : grid0.Coords) : (L 1).val < 16 := (L 1).isLt

/-- The first row of the tile. -/
abbrev row0 (L : grid0.Coords) : ℕ := 8 * (L 1).val + 4 * (L 0).val

/-! ## The pieces in the kernel's spelling -/

abbrev xA (L : grid0.Coords) : Memref sig .scVector .hbm S4x4096 .i32 := (xV).slice (Rect.unit (s := S128x8192) (k0_off1 L) S4x4096.size (k0_off1_inb L)) (fun _ => rfl)
abbrev xB (L : grid0.Coords) : Memref sig .scVector .hbm S4x4096 .i32 := (xV).slice (Rect.unit (s := S128x8192) (k0_off2 L) S4x4096.size (k0_off2_inb L)) (fun _ => rfl)
abbrev oR (L : grid0.Coords) (r : Fin 4) : Memref sig .scVector .hbm S1040 .i32 :=
  ((oV).slice (Rect.unit (s := S128x1040) (k0_off15 L (BitVec.ofNat 32 r.val)) S1x1040.size (k0_off15_inb L r)) (fun _ => rfl)).squeeze S1040 squeezes_S1x1040_S1040

theorem set_xA (L : grid0.Coords) : (xA L).view.set = xHalf (L 0).val (L 1).val 0 := by
  have b0 := bnd0 L
  have b1 := bnd1 L
  show ((xV).view.slice (Rect.unit (s := S128x8192) (k0_off1 L) S4x4096.size (k0_off1_inb L))).set = _
  rw [View.set_slice]
  refine Finset.map_refl.trans ?_
  ext j
  have hj0 := idx2_lt0 j
  have hj1 := idx2_lt1 j
  rw [Rect.mem_set_unit]
  simp only [k0_off1_eq, xHalf, Finset.mem_filter, Finset.mem_univ]
  constructor
  · intro h
    have e0 := h 0
    have e1 := h 1
    simp [S4x4096] at e0 e1
    refine ⟨trivial, ?_, ?_, ?_⟩ <;> omega
  · rintro ⟨-, e1, e2, e3⟩ a
    match a with
    | 0 => simp [S4x4096]; omega
    | 1 => simp [S4x4096]; omega

theorem set_xB (L : grid0.Coords) : (xB L).view.set = xHalf (L 0).val (L 1).val 1 := by
  have b0 := bnd0 L
  have b1 := bnd1 L
  show ((xV).view.slice (Rect.unit (s := S128x8192) (k0_off2 L) S4x4096.size (k0_off2_inb L))).set = _
  rw [View.set_slice]
  refine Finset.map_refl.trans ?_
  ext j
  have hj0 := idx2_lt0 j
  have hj1 := idx2_lt1 j
  rw [Rect.mem_set_unit]
  simp only [k0_off2_eq, xHalf, Finset.mem_filter, Finset.mem_univ]
  constructor
  · intro h
    have e0 := h 0
    have e1 := h 1
    simp [S4x4096] at e0 e1
    refine ⟨trivial, ?_, ?_, ?_⟩ <;> omega
  · rintro ⟨-, e1, e2, e3⟩ a
    match a with
    | 0 => simp [S4x4096]; omega
    | 1 => simp [S4x4096]; omega

theorem set_oR (L : grid0.Coords) (r : Fin 4) : (oR L r).view.set = oRow (L 0).val (L 1).val r.val := by
  have b0 := bnd0 L
  have b1 := bnd1 L
  show (((oV).view.slice (Rect.unit (s := S128x1040) (k0_off15 L (BitVec.ofNat 32 r.val)) S1x1040.size (k0_off15_inb L r))).reshape
    S1040 squeezes_S1x1040_S1040.numel_eq).set = _
  rw [View.set_reshape, View.set_slice]
  refine Finset.map_refl.trans ?_
  ext j
  have hj0 := idx2_lt0 j
  have hj1 := idx2_lt1 j
  rw [Rect.mem_set_unit]
  simp only [k0_off15_eq, oRow, Finset.mem_filter, Finset.mem_univ]
  have hr := r.isLt
  constructor
  · intro h
    have e0 := h 0
    simp [S1x1040] at e0
    refine ⟨trivial, ?_, ?_, ?_⟩ <;> omega
  · rintro ⟨-, e1, e2, e3⟩ a
    match a with
    | 0 => simp [S1x1040]; omega
    | 1 => simp [S1x1040]; omega

section Pts
variable (d : Dev nD) (L : grid0.Coords)

theorem pts_xA (f : Buf (Elt F) (xLoc d)) :
    ((xA L).view.loc (V d (cV L) (jV L)) ↦[(xA L).view.set]{fullShare} f : sProp 𝕄) = xLoc d ↦[xHalf (L 0).val (L 1).val 0]{fullShare} f := by
  rw [set_xA]
theorem pts_xB (f : Buf (Elt F) (xLoc d)) :
    ((xB L).view.loc (V d (cV L) (jV L)) ↦[(xB L).view.set]{fullShare} f : sProp 𝕄) = xLoc d ↦[xHalf (L 0).val (L 1).val 1]{fullShare} f := by
  rw [set_xB]
theorem pts_oR (r : Fin 4) (k : ℕ) (hk : r.val = k) (f : Buf (Elt F) (oLoc d)) :
    ((oR L r).view.loc (V d (cV L) (jV L)) ↦[(oR L r).view.set]{fullShare} f : sProp 𝕄) = oLoc d ↦[oRow (L 0).val (L 1).val k]{fullShare} f := by
  subst hk; rw [set_oR]
end Pts

/-! ## What the pieces read -/

theorem emb_xA0 (L : grid0.Coords) (x : S4x4096.Idx) : (((xA L).view.emb x : S128x8192.Idx) 0).val = row0 L + (x 0).val := by
  show (k0_off1 L) 0 + 1 * (x 0).val = _
  rw [k0_off1_eq, Nat.one_mul]; rfl
theorem emb_xA1 (L : grid0.Coords) (x : S4x4096.Idx) : (((xA L).view.emb x : S128x8192.Idx) 1).val = (x 1).val := by
  show (k0_off1 L) 1 + 1 * (x 1).val = _
  rw [k0_off1_eq, Nat.one_mul]; exact Nat.zero_add _
theorem emb_xB0 (L : grid0.Coords) (x : S4x4096.Idx) : (((xB L).view.emb x : S128x8192.Idx) 0).val = row0 L + (x 0).val := by
  show (k0_off2 L) 0 + 1 * (x 0).val = _
  rw [k0_off2_eq, Nat.one_mul]; rfl
theorem emb_xB1 (L : grid0.Coords) (x : S4x4096.Idx) : (((xB L).view.emb x : S128x8192.Idx) 1).val = 4096 + (x 1).val := by
  show (k0_off2 L) 1 + 1 * (x 1).val = _
  rw [k0_off2_eq, Nat.one_mul]; rfl
theorem emb_oR (L : grid0.Coords) (r : Fin 4) (x : S1040.Idx) :
    (((oR L r).view.emb x : S128x1040.Idx) 0).val = row0 L + r.val ∧ (((oR L r).view.emb x : S128x1040.Idx) 1).val = (x 0).val := by
  have he : (Shape.reshapeEquiv squeezes_S1x1040_S1040.numel_eq x : S1x1040.Idx) = Fin.cons ⟨0, Nat.one_pos⟩ x :=
    Shape.reshapeEquiv_cons_one (d := ![1040]) squeezes_S1x1040_S1040.numel_eq x
  constructor
  · show (k0_off15 L (BitVec.ofNat 32 r.val)) 0 + 1 * ((Shape.reshapeEquiv squeezes_S1x1040_S1040.numel_eq x : S1x1040.Idx) 0).val = _
    rw [k0_off15_eq, he]; rfl
  · show (k0_off15 L (BitVec.ofNat 32 r.val)) 1 + 1 * ((Shape.reshapeEquiv squeezes_S1x1040_S1040.numel_eq x : S1x1040.Idx) 1).val = _
    rw [k0_off15_eq, he, Nat.one_mul]; exact Nat.zero_add _

/-- A buffer of the tile holds columns `p₀ …` of the tile's four rows of the tokens. -/
def Holds (S : IVec S128x8192 32) (L : grid0.Coords) (p₀ : ℕ) (f : IVec S4x4096 32) : Prop :=
  ∀ j : S4x4096.Idx, (f j).toNat = srow S (row0 L + (j 0).val) (p₀ + (j 1).val)

theorem row_lt (L : grid0.Coords) {r : ℕ} (hr : r < 4) : row0 L + r < 128 := by
  have := bnd0 L; have := bnd1 L; unfold row0; omega

theorem holds_xA (S : IVec S128x8192 32) (L : grid0.Coords) : Holds S L 0 ((xA L).view.read (Elt F) S) := by
  intro j
  have h0 := idx2_lt0 j
  have h1 := idx2_lt1 j
  rw [srow_of_lt S (row_lt L h0) (by omega : 0 + (j 1).val < 8192)]
  show (S ((xA L).view.emb j)).toNat = _
  congr 2
  funext a
  match a with
  | 0 => exact Fin.ext (emb_xA0 L j)
  | 1 => exact Fin.ext ((emb_xA1 L j).trans (Nat.zero_add _).symm)

theorem holds_xB (S : IVec S128x8192 32) (L : grid0.Coords) : Holds S L 4096 ((xB L).view.read (Elt F) S) := by
  intro j
  have h0 := idx2_lt0 j
  have h1 := idx2_lt1 j
  rw [srow_of_lt S (row_lt L h0) (by omega : 4096 + (j 1).val < 8192)]
  show (S ((xB L).view.emb j)).toNat = _
  congr 2
  funext a
  match a with
  | 0 => exact Fin.ext (emb_xB0 L j)
  | 1 => exact Fin.ext (emb_xB1 L j)

/-! ## The positions scattered to -/

theorem pay1_toNat (x : S16.Idx) : ((k0_pay1 : IVec S16 32) x).toNat = 65 * (x 0).val := by
  have hx : (x 0).val < 16 := (x 0).isLt
  have hpay : (k0_pay1 : IVec S16 32) x = BitVec.ofNat 32 (x 0).val * 65#32 := by
    show iota .scVector S16 32 [0] iota_S16_d0_w32_scVector x * 65#32 = _
    rw [iota_single_apply]
  rw [hpay, BitVec.toNat_mul, BitVec.toNat_ofNat]
  show ((x 0).val % 2 ^ 32) * 65 % 2 ^ 32 = _
  omega

/-- The scatter's positions, from the sixteen tokens loaded. -/
theorem pos_toNat (S : IVec S128x8192 32) (hS : Small S) (b p : ℕ) (ld : IVec S1x16 32)
    (hld : ∀ y : S1x16.Idx, (ld y).toNat = srow S b (p + (y 1).val)) (x : S16.Idx) :
    ((addi k0_pay1 (shapeCast S16 ld shapeCasts_S1x16_S16) : IVec S16 32) x).toNat = 65 * (x 0).val + srow S b (p + (x 0).val) := by
  have hx : (x 0).val < 16 := (x 0).isLt
  have he : shapeCast S16 ld shapeCasts_S1x16_S16 x = ld (Fin.cons ⟨0, Nat.one_pos⟩ x) :=
    Idealize.ShloMosaic.shapeCast_dropUnit_apply ![16] ld shapeCasts_S1x16_S16 x
  have hl : (shapeCast S16 ld shapeCasts_S1x16_S16 x).toNat = srow S b (p + (x 0).val) := by
    rw [he]; exact hld _
  have hb := srow_lt hS b (p + (x 0).val)
  show ((k0_pay1 : IVec S16 32) x + shapeCast S16 ld shapeCasts_S1x16_S16 x).toNat = _
  rw [BitVec.toNat_add, pay1_toNat, hl]
  omega

/-- Such positions lie in a row of counters. -/
theorem pos_lt {s : ℕ → ℕ} (hs : ∀ p, s p < 64) {p : ℕ} {v : IVec S16 32} (hv : ∀ x : S16.Idx, (v x).toNat = 65 * (x 0).val + s (p + (x 0).val)) :
    ∀ a x, ((![v] : Fin 1 → IVec S16 32) a x).toNat < S1040.size a := by
  intro a x
  have hx : (x 0).val < 16 := (x 0).isLt
  match a with
  | 0 =>
    show (v x).toNat < 1040
    rw [hv]
    have := hs (p + (x 0).val)
    omega

/-! ## Sixteen counters set to zero -/

variable [FloatOps F]

theorem zero_step {κ : Kind} {sp : Space} (v : View sig κ sp S1040 .i32) (f : v.ty.Contents (Elt F)) (k : ℕ) {off : Fin S1040.rank → ℕ}
    (inb : ∀ a, off a + S16.size a ≤ S1040.size a) (hoff : off = ![16 * k])
    (hf : ∀ j : S1040.Idx, (j 0).val < 16 * k → v.read (Elt F) f j = 0#32) (j : S1040.Idx) (hj : (j 0).val < 16 * (k + 1)) :
    v.read (Elt F) (v.writes (Elt F) f [⟨Rect.unit (s := S1040) off S16.size inb, (k0_pay3 : IVec S16 32)⟩]) j = 0#32 := by
  by_cases h : (j 0).val < 16 * k
  · rw [View.read_writes_cons_unit_of_not_mem v f inb _ [] j hoff 0 (.inl h)]
    exact hf j h
  · rw [View.read_writes_cons_unit_of_mem v f inb _ [] j (fun a => match a with | 0 => ⟨(j 0).val - 16 * k, by show _ < 16; omega⟩) hoff
      (fun a => match a with | 0 => by show (j 0).val = 16 * k + ((j 0).val - 16 * k); omega)]
    rfl

/-! ## Sixteen tokens loaded -/

/-- What a load of sixteen columns of row `r` of a buffer holding the tile's tokens reads. -/
theorem load_toNat {S : IVec S128x8192 32} {L : grid0.Coords} {p₀ : ℕ} {κ : Kind} {sp : Space} (v : View sig κ sp S4x4096 .i32)
    (f : v.ty.Contents (Elt F)) (hf : Holds S L p₀ (v.read (Elt F) f)) (r n p : ℕ) {off : Fin S4x4096.rank → ℕ}
    (inb : ∀ a, off a + S1x16.size a ≤ S4x4096.size a) (hoff : off = ![r, n]) (hp : p = p₀ + n) (y : S1x16.Idx) :
    ((v.readAt (Elt F) (Rect.unit (s := S4x4096) off S1x16.size inb).toLoadRect f : IVec S1x16 32) y).toNat = srow S (row0 L + r) (p + (y 1).val) := by
  subst hoff hp
  have hy := idx2_lt0 y
  rw [View.readAt_apply]
  refine (hf _).trans ?_
  congr 1
  · show row0 L + (r + 1 * (y 0).val) = _
    omega
  · show p₀ + (n + 1 * (y 1).val) = _
    omega

end Cert.Proof

end
-- ==== Proof.Tile.lean ====
/-
  One tile of the SparseCore call: its run, with what it leaves in its rows of the result.
-/
module

public import proofs.«01_k».proof.Proof.TileGeo
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S128x8192 EltTy.i32)
local notation "oV" => (Memref.whole Cert.KernelIdeal.main_v0_scv : Memref Cert.KernelIdeal.sig Kind.scVector Space.hbm Cert.KernelIdeal.S128x1040 EltTy.i32)
local notation "bA" => (Memref.whole Cert.KernelIdeal.cc0_scratch0 : Memref Cert.KernelIdeal.sig Kind.scVector Space.vmem Cert.KernelIdeal.S4x4096 EltTy.i32)
local notation "bB" => (Memref.whole Cert.KernelIdeal.cc0_scratch1 : Memref Cert.KernelIdeal.sig Kind.scVector Space.vmem Cert.KernelIdeal.S4x4096 EltTy.i32)
local notation "gR0" => (Memref.whole Cert.KernelIdeal.cc0_scratch2 : Memref Cert.KernelIdeal.sig Kind.scVector Space.vmem Cert.KernelIdeal.S1040 EltTy.i32)
local notation "gR1" => (Memref.whole Cert.KernelIdeal.cc0_scratch3 : Memref Cert.KernelIdeal.sig Kind.scVector Space.vmem Cert.KernelIdeal.S1040 EltTy.i32)
local notation "gR2" => (Memref.whole Cert.KernelIdeal.cc0_scratch4 : Memref Cert.KernelIdeal.sig Kind.scVector Space.vmem Cert.KernelIdeal.S1040 EltTy.i32)
local notation "gR3" => (Memref.whole Cert.KernelIdeal.cc0_scratch5 : Memref Cert.KernelIdeal.sig Kind.scVector Space.vmem Cert.KernelIdeal.S1040 EltTy.i32)

variable (m : (ℓ : Loc nD τ sig) → Buf (Elt F) ℓ)

section Tile

variable (d : Dev nD) (L : grid0.Coords)

/-! ## The tile's own memory -/

theorem pts_bA (f : Buf (Elt F) ((V d (cV L) (jV L)).loc cc0_scratch0)) :
    ((bA).view.loc (V d (cV L) (jV L)) ↦{fullShare} f : sProp 𝕄) = (V d (cV L) (jV L)).loc cc0_scratch0 ↦{fullShare} f := rfl
theorem pts_bB (f : Buf (Elt F) ((V d (cV L) (jV L)).loc cc0_scratch1)) :
    ((bB).view.loc (V d (cV L) (jV L)) ↦{fullShare} f : sProp 𝕄) = (V d (cV L) (jV L)).loc cc0_scratch1 ↦{fullShare} f := rfl
theorem pts_g0 (f : Buf (Elt F) ((V d (cV L) (jV L)).loc cc0_scratch2)) :
    ((gR0).view.loc (V d (cV L) (jV L)) ↦{fullShare} f : sProp 𝕄) = (V d (cV L) (jV L)).loc cc0_scratch2 ↦{fullShare} f := rfl
theorem pts_g1 (f : Buf (Elt F) ((V d (cV L) (jV L)).loc cc0_scratch3)) :
    ((gR1).view.loc (V d (cV L) (jV L)) ↦{fullShare} f : sProp 𝕄) = (V d (cV L) (jV L)).loc cc0_scratch3 ↦{fullShare} f := rfl
theorem pts_g2 (f : Buf (Elt F) ((V d (cV L) (jV L)).loc cc0_scratch4)) :
    ((gR2).view.loc (V d (cV L) (jV L)) ↦{fullShare} f : sProp 𝕄) = (V d (cV L) (jV L)).loc cc0_scratch4 ↦{fullShare} f := rfl
theorem pts_g3 (f : Buf (Elt F) ((V d (cV L) (jV L)).loc cc0_scratch5)) :
    ((gR3).view.loc (V d (cV L) (jV L)) ↦{fullShare} f : sProp 𝕄) = (V d (cV L) (jV L)).loc cc0_scratch5 ↦{fullShare} f := rfl

/-- The six transfers' cells: the two fetches', the four rows' write-outs'. -/
abbrev cel0 : GSem nD τ sig := (V d (cV L) (jV L), .dma cc0_scratch6.sem)
abbrev cel1 : GSem nD τ sig := (V d (cV L) (jV L), .dma cc0_scratch7.sem)
abbrev cel2 : GSem nD τ sig := (V d (cV L) (jV L), .dma cc0_scoped0.sem)
abbrev cel3 : GSem nD τ sig := (V d (cV L) (jV L), .dma cc0_scoped1.sem)
abbrev cel4 : GSem nD τ sig := (V d (cV L) (jV L), .dma cc0_scoped2.sem)
abbrev cel5 : GSem nD τ sig := (V d (cV L) (jV L), .dma cc0_scoped3.sem)

/-- Six elements taken out of a separating conjunction, one after another. -/
theorem bigSep_six {α : Type} [DecidableEq α] {s : Finset α} {a0 a1 a2 a3 a4 a5 : α} (Φ : α → sProp 𝕄)
    (h0 : a0 ∈ s) (h1 : a1 ∈ s) (h2 : a2 ∈ s) (h3 : a3 ∈ s) (h4 : a4 ∈ s) (h5 : a5 ∈ s)
    (hn : [a0, a1, a2, a3, a4, a5].Nodup) :
    bigSep s Φ = iprop(Φ a0 ∗ Φ a1 ∗ Φ a2 ∗ Φ a3 ∗ Φ a4 ∗ Φ a5
      ∗ bigSep ((((((s.erase a0).erase a1).erase a2).erase a3).erase a4).erase a5) Φ) := by
  simp only [List.nodup_cons, List.mem_cons, List.not_mem_nil, or_false, not_or] at hn
  obtain ⟨⟨n01, n02, n03, n04, n05⟩, ⟨n12, n13, n14, n15⟩, ⟨n23, n24, n25⟩, ⟨n34, n35⟩, n45, -⟩ := hn
  rw [SparseCore.bigSep_erase' h0, SparseCore.bigSep_erase' (i := a1) (by simp [h1, Ne.symm n01]),
    SparseCore.bigSep_erase' (i := a2) (by simp [h2, Ne.symm n02, Ne.symm n12]),
    SparseCore.bigSep_erase' (i := a3) (by simp [h3, Ne.symm n03, Ne.symm n13, Ne.symm n23]),
    SparseCore.bigSep_erase' (i := a4) (by simp [h4, Ne.symm n04, Ne.symm n14, Ne.symm n24, Ne.symm n34]),
    SparseCore.bigSep_erase' (i := a5) (by simp [h5, Ne.symm n05, Ne.symm n15, Ne.symm n25, Ne.symm n35, Ne.symm n45])]

theorem cell_mem (x : SemLoc sig) (h : x.isScoped .scVector = true) :
    ((V d (cV L) (jV L), x) : GSem nD τ sig) ∈ ownCells (V d (cV L) (jV L)) := (mem_ownCells (g := (V d (cV L) (jV L), x))).mpr ⟨rfl, h⟩

theorem ownSems0_V :
    (ownSems0 (V d (cV L) (jV L)) : sProp 𝕄)
      = iprop(semVal (cel0 d L) 0 ∗ semVal (cel1 d L) 0 ∗ semVal (cel2 d L) 0 ∗ semVal (cel3 d L) 0 ∗ semVal (cel4 d L) 0 ∗ semVal (cel5 d L) 0
          ∗ bigSep (((((((ownCells (V d (cV L) (jV L))).erase (cel0 d L)).erase (cel1 d L)).erase (cel2 d L)).erase (cel3 d L)).erase
              (cel4 d L)).erase (cel5 d L)) fun g => semVal g 0) := by
  unfold SparseCore.Cfg.ownSems0
  refine bigSep_six _ (cell_mem d L _ (by decide)) (cell_mem d L _ (by decide)) (cell_mem d L _ (by decide)) (cell_mem d L _ (by decide))
    (cell_mem d L _ (by decide)) (cell_mem d L _ (by decide)) ?_
  have hk : [(SemLoc.dma cc0_scratch6.sem : SemLoc sig), .dma cc0_scratch7.sem, .dma cc0_scoped0.sem, .dma cc0_scoped1.sem, .dma cc0_scoped2.sem,
    .dma cc0_scoped3.sem].Nodup := by decide
  exact hk.map (f := fun x => ((V d (cV L) (jV L), x) : GSem nD τ sig)) fun _ _ e => (Prod.mk.inj e).2

abbrev devR (b : Ref sig .scVector) : DevRef τ sig := (Proc.scVector (cV L) (jV L)).devRef b

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (devR L cc0_scratch0)).erase (devR L cc0_scratch1)).erase
              (devR L cc0_scratch2)).erase (devR L cc0_scratch3)).erase (devR L cc0_scratch4)).erase (devR L cc0_scratch5))
              fun b => iprop(∃ f, ((d, b) : Loc nD τ sig) ↦{fullShare} f)) := by
  unfold SparseCore.Cfg.ownBufs
  have hm : ∀ b : Ref sig .scVector, (devR L b).owner = .proc (.scVector (cV L) (jV L)) → devR L b ∈ ownRefs (τ := τ) (.scVector (cV L) (jV L)) :=
    fun b hb => SparseCore.Cfg.mem_ownRefs_of_owner (p := Proc.scVector (cV L) (jV L)) (b := devR L b) hb
  refine bigSep_six (fun b => iprop(∃ f, ((d, b) : Loc nD τ sig) ↦{fullShare} f)) (hm cc0_scratch0 rfl) (hm cc0_scratch1 rfl) (hm cc0_scratch2 rfl) (hm cc0_scratch3 rfl) (hm cc0_scratch4 rfl) (hm cc0_scratch5 rfl) ?_
  have hk : [(cc0_scratch0 : Ref sig .scVector), cc0_scratch1, cc0_scratch2, cc0_scratch3, cc0_scratch4, cc0_scratch5].Nodup := by decide
  exact hk.map (f := devR L) fun _ _ e => Proc.devRef_injective _ e

/-- A row's counters before trip `k` of its zeroing loop: the first `16 k` are zero. -/
def zinv (M : Memref sig .scVector .vmem S1040 .i32) (k : ℕ) (_ : PUnit) : sProp 𝕄 :=
  iprop(∃ f : Buf (Elt F) (M.view.loc (V d (cV L) (jV L))),
    ⌜∀ j : S1040.Idx, (j 0).val < 16 * k → M.view.read (Elt F) f j = 0#32⌝ ∗ M.view.loc (V d (cV L) (jV L)) ↦{fullShare} f)

/-- A row's counters after `n` groups of its tokens. -/
def gpts (M : Memref sig .scVector .vmem S1040 .i32) (s : ℕ → ℕ) (n : ℕ) : sProp 𝕄 :=
  iprop(∃ f : Buf (Elt F) (M.view.loc (V d (cV L) (jV L))),
    ⌜M.view.read (Elt F) f = histV s n⌝ ∗ M.view.loc (V d (cV L) (jV L)) ↦{fullShare} f)

/-- The tile before trip `k` of a counting loop that starts at group `n₀`: the buffer of tokens and the four rows' counters. -/
def hinv (S : IVec S128x8192 32) (B : Memref sig .scVector .vmem S4x4096 .i32) (fB : Buf (Elt F) (B.view.loc (V d (cV L) (jV L)))) (n₀ : ℕ) (k : ℕ) (_ : PUnit) : sProp 𝕄 :=
  iprop((B.view.loc (V d (cV L) (jV L)) ↦{fullShare} fB)
    ∗ gpts d L gR0 (srow S (row0 L + 0)) (n₀ + k) ∗ gpts d L gR1 (srow S (row0 L + 1)) (n₀ + k)
    ∗ gpts d L gR2 (srow S (row0 L + 2)) (n₀ + k) ∗ gpts d L gR3 (srow S (row0 L + 3)) (n₀ + k))

/-- All the counters zero is no group counted. -/
theorem gpts_of_zinv (M : Memref sig .scVector .vmem S1040 .i32) (s : ℕ → ℕ) (k : ℕ) (hk : k = 65) (a : PUnit) :
    zinv (F := F) d L M k a ⊢ gpts d L M s 0 := by
  subst hk
  unfold zinv gpts
  iintro ⟨%f, %hf, H⟩
  iexists f
  isplitr
  · ipureintro
    rw [histV_zero]
    funext j
    exact hf j (show (j 0).val < 1040 from (j 0).isLt)
  · iexact H

variable [FloatOps F]

/-- One scattered addition of ones: the row's counters go from `n` groups of tokens to `n + 1`. -/
theorem scatter_row (M : Memref sig .scVector .vmem S1040 .i32) (hset : (M.access (.whole S1040)).set = Finset.univ)
    {s : ℕ → ℕ} (hs : ∀ p, s p < 64) (n : ℕ) {v : IVec S16 32} (hv : ∀ x : S16.Idx, (v x).toNat = 65 * (x 0).val + s (16 * n + (x 0).val))
    {h : ∀ a x, ((![v] : Fin 1 → IVec S16 32) a x).toNat < S1040.size a} {hst : (M.access (.whole S1040)).Stores Finset.univ}
    {α : Type} {Q : α → sProp 𝕄} (k : PUnit → Prog (TpuEff nD τ sig (Elt F) Λ₀ (.scVector (cV L) (jV L))) α) :
    (gpts d L M s n : sProp 𝕄)
      ⊢ iprop((gpts d L M s (n + 1) -∗ wp frame (wpE (defs₀ (F := F)) 𝒱₀ (V d (cV L) (jV L)) none) Set.univ (k ⟨⟩) Q)
        -∗ wp frame (wpE (defs₀ (F := F)) 𝒱₀ (V d (cV L) (jV L)) none) Set.univ
          (SparseCore.vectorStoreIdx (p := .scVector (cV L) (jV L)) M ![v] k0_pay2 (fun _ => 1#1) true h hst >>= k) Q) := by
  have hread : ∀ f : Buf (Elt F) (M.view.loc (V d (cV L) (jV L))), (M.access (.whole S1040)).read (Elt F) f = M.view.read (Elt F) f := by
    intro f
    funext x
    show _root_.cast _ (f (M.view.emb ((Rect.whole S1040).emb x))) = _root_.cast _ (f (M.view.emb x))
    rw [Rect.emb_whole_apply]
  unfold gpts
  iintro ⟨%f, %hf, H⟩ Hk
  ihave H' := (Entails.of_eq (show (M.view.loc (V d (cV L) (jV L)) ↦{fullShare} f : sProp 𝕄)
    = ((M.access (.whole S1040)).loc (V d (cV L) (jV L)) ↦[(M.access (.whole S1040)).set]{fullShare} f) by rw [hset])) $$ H
  iapply (SparseCore.wp_vectorStoreIdx 𝒱₀ (V d (cV L) (jV L)) none Set.univ (base := M)) $$ H'
  iintro H
  iapply Hk
  rw [hset]
  iexists _
  isplitr
  swap; · iexact H
  ipureintro
  refine (hread _).symm.trans ((View.read_write_univ _ _).trans ?_)
  rw [hread, hf]
  exact storeIdx_hist hs n v hv k0_pay2 (fun _ => rfl) h

/-- The row of the specification at an entry of a tile's piece. -/
theorem histAll_oR (S : IVec S128x8192 32) (r : Fin 4) (x : S1040.Idx) :
    histAll S ((oR L r).view.emb x) = histV (srow S (row0 L + r.val)) 512 x := by
  obtain ⟨e0, e1⟩ := emb_oR L r x
  unfold histAll histV
  rw [e0, e1]

set_option maxHeartbeats 1000000 in
/-- An entry of a row of the result after its counters are written. -/
theorem oR_written_emb (r : Fin 4) (f : Buf (Elt F) (oLoc d)) (w : IVec S1040 32) (hw : w = histV (srow (seqOf m d) (row0 L + r.val)) 512) (x : S1040.Idx) : (oR L r).view.writes (Elt F) f [⟨Rect.whole S1040, w⟩] ((oR L r).view.emb x) = histOf m d ((oR L r).view.emb x) := by
  have h1 := congrFun (View.read_writes_whole (Val := Elt F) (oR L r).view f w) x
  have h2 : w x = histAll (seqOf m d) ((oR L r).view.emb x) := by rw [histAll_oR, hw]
  exact Eq.trans h1 h2

set_option maxHeartbeats 1000000 in
theorem oR_written (r : Fin 4) (f : Buf (Elt F) (oLoc d)) (w : IVec S1040 32) (hw : w = histV (srow (seqOf m d) (row0 L + r.val)) 512) (i : S128x1040.Idx) (hi : i ∈ (oR L r).view.set) : (oR L r).view.writes (Elt F) f [⟨Rect.whole S1040, w⟩] i = histOf m d i := by
  obtain ⟨x, -, rfl⟩ := Finset.mem_map.mp hi
  exact oR_written_emb m d L r f w hw x

set_option maxHeartbeats 1000000 in
/-- A row of the result after its counters are written: the row of the specification. -/
theorem pts_oR_written (r : Fin 4) (k : ℕ) (hk : r.val = k) (f : Buf (Elt F) (oLoc d)) (w : IVec S1040 32)
    (hw : w = histV (srow (seqOf m d) (row0 L + k)) 512) :
    ((oR L r).view.loc (V d (cV L) (jV L)) ↦[(oR L r).view.set]{fullShare} (oR L r).view.writes (Elt F) f [⟨Rect.whole S1040, w⟩] : sProp 𝕄)
      = (oR L r).view.loc (V d (cV L) (jV L)) ↦[(oR L r).view.set]{fullShare} histOf m d := by
  subst hk
  exact pointsTo_congr (oR_written m d L r f w hw)
theorem pts_oR_hist (r : Fin 4) (k : ℕ) (hk : r.val = k) (f : Buf (Elt F) (oLoc d)) (w : IVec S1040 32)
    (hw : w = histV (srow (seqOf m d) (row0 L + k)) 512) :
    ((oR L r).view.loc (V d (cV L) (jV L)) ↦[(oR L r).view.set]{fullShare} (oR L r).view.writes (Elt F) f [⟨Rect.whole S1040, w⟩] : sProp 𝕄)
      = oLoc d ↦[oRow (L 0).val (L 1).val k]{fullShare} histOf m d :=
  (pts_oR_written m d L r k hk f w hw).trans (pts_oR (F := F) d L r k hk (histOf m d))

set_option maxHeartbeats 4000000 in
theorem tile_body (hF : (K (F := F)).Facts) (hS : Small (seqOf m d)) (O : CellTallies nD τ sig (HIx 1)) (W : Waits sig (HIx 1)) (hO : ∀ g, O g none = 0) :
    (iprop(levAts (K (F := F)).L (K (F := F)).lev ∗ emp
        ∗ ((xLoc d ↦[xTile (L 0).val (L 1).val]{fullShare} m (xLoc d)) ∗ oLoc d ↦[oTile (L 0).val (L 1).val]{fullShare} m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_hist L xV (Memref.isWhole_whole _) oV (Memref.isWhole_whole _) bA (Memref.isWhole_whole _) bB (Memref.isWhole_whole _)
            gR0 (Memref.isWhole_whole _) gR1 (Memref.isWhole_whole _) gR2 (Memref.isWhole_whole _) gR3 (Memref.isWhole_whole _)
            cc0_scratch6 cc0_scratch7 cc0_scoped0 cc0_scoped1 cc0_scoped2 cc0_scoped3)
          fun _ => iprop(((xLoc d ↦[xTile (L 0).val (L 1).val]{fullShare} m (xLoc d)) ∗ oLoc d ↦[oTile (L 0).val (L 1).val]{fullShare} histOf m d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V,
    x_halves, o_rows, o_rows]
  iintro ⟨#Hlv, -, ⟨⟨HxA, HxB⟩, ⟨Ho0, Ho1, Ho2, Ho3⟩⟩, ⟨⟨%fA, HbA⟩, ⟨%fB, HbB⟩, ⟨%f0, Hg0⟩, ⟨%f1, Hg1⟩, ⟨%f2, Hg2⟩, ⟨%f3, Hg3⟩, Hbufs⟩,
    ⟨Hc0, Hc1, Hc2, Hc3, Hc4, Hc5, Hsems⟩, HO⟩
  -- the waits' evidence: everything the tile owes lies above its transfers' cells
  ihave Hmw := (show levAts (K (F := F)).L (K (F := F)).lev ⊢ Transfers.MayWaits (V d (cV L) (jV L)) (default : HIx 1) O from
    (K (F := F)).mayWaits_none (thr := V d (cV L) (jV L)) hO) $$ Hlv
  -- the pieces in the body's spelling
  ihave HxA' := (Entails.of_eq (pts_xA (F := F) d L _).symm) $$ HxA
  ihave HxB' := (Entails.of_eq (pts_xB (F := F) d L _).symm) $$ HxB
  ihave Ho0' := (Entails.of_eq (pts_oR (F := F) d L 0 0 rfl _).symm) $$ Ho0
  ihave Ho1' := (Entails.of_eq (pts_oR (F := F) d L 1 1 rfl _).symm) $$ Ho1
  ihave Ho2' := (Entails.of_eq (pts_oR (F := F) d L 2 2 rfl _).symm) $$ Ho2
  ihave Ho3' := (Entails.of_eq (pts_oR (F := F) d L 3 3 rfl _).symm) $$ Ho3
  ihave HbA' := (Entails.of_eq (pts_bA (F := F) d L _).symm) $$ HbA
  ihave HbB' := (Entails.of_eq (pts_bB (F := F) d L _).symm) $$ HbB
  ihave Hg0' := (Entails.of_eq (pts_g0 (F := F) d L _).symm) $$ Hg0
  ihave Hg1' := (Entails.of_eq (pts_g1 (F := F) d L _).symm) $$ Hg1
  ihave Hg2' := (Entails.of_eq (pts_g2 (F := F) d L _).symm) $$ Hg2
  ihave Hg3' := (Entails.of_eq (pts_g3 (F := F) d L _).symm) $$ Hg3
  sl_unfold [cc0_sc_hist]
  sl_exec (disch := exact View.amount_pos _ _ (show 0 < S4x4096.numel by decide))
  sl_for (zinv (F := F) d L gR0) $$ [Hg0']
  case region =>
    intro k _
    unfold zinv
    iintro ⟨%f, %hf, Hg⟩
    sl_exec
    sl_step
    iexists _
    isplitr
    swap; · iexact Hg
    ipureintro
    exact zero_step (F := F) (gR0).view f k.val _ (k0_off3_eq k) hf
  · unfold zinv
    iexists _
    isplitr
    swap; · iexact Hg0'
    ipureintro
    intro j hj
    exact absurd hj (Nat.not_lt_zero _)
  iintro %_ Hz0
  sl_for (zinv (F := F) d L gR1) $$ [Hg1']
  case region =>
    intro k _
    unfold zinv
    iintro ⟨%f, %hf, Hg⟩
    sl_exec
    sl_step
    iexists _
    isplitr
    swap; · iexact Hg
    ipureintro
    exact zero_step (F := F) (gR1).view f k.val _ (k0_off4_eq k) hf
  · unfold zinv
    iexists _
    isplitr
    swap; · iexact Hg1'
    ipureintro
    intro j hj
    exact absurd hj (Nat.not_lt_zero _)
  iintro %_ Hz1
  sl_for (zinv (F := F) d L gR2) $$ [Hg2']
  case region =>
    intro k _
    unfold zinv
    iintro ⟨%f, %hf, Hg⟩
    sl_exec
    sl_step
    iexists _
    isplitr
    swap; · iexact Hg
    ipureintro
    exact zero_step (F := F) (gR2).view f k.val _ (k0_off5_eq k) hf
  · unfold zinv
    iexists _
    isplitr
    swap; · iexact Hg2'
    ipureintro
    intro j hj
    exact absurd hj (Nat.not_lt_zero _)
  iintro %_ Hz2
  sl_for (zinv (F := F) d L gR3) $$ [Hg3']
  case region =>
    intro k _
    unfold zinv
    iintro ⟨%f, %hf, Hg⟩
    sl_exec
    sl_step
    iexists _
    isplitr
    swap; · iexact Hg
    ipureintro
    exact zero_step (F := F) (gR3).view f k.val _ (k0_off6_eq k) hf
  · unfold zinv
    iexists _
    isplitr
    swap; · iexact Hg3'
    ipureintro
    intro j hj
    exact absurd hj (Nat.not_lt_zero _)
  iintro %_ Hz3
  sl_exec (disch := exact View.amount_pos _ _ (show 0 < S4x4096.numel by decide))
  -- the counters at zero
  ihave Hg0 := (gpts_of_zinv (F := F) d L gR0 (srow (seqOf m d) (row0 L + 0)) (Scf.trips k0_t1_loop.lb k0_t1_loop.ub k0_t1_loop.st) (by decide) _) $$ Hz0
  ihave Hg1 := (gpts_of_zinv (F := F) d L gR1 (srow (seqOf m d) (row0 L + 1)) (Scf.trips k0_t2_loop.lb k0_t2_loop.ub k0_t2_loop.st) (by decide) _) $$ Hz1
  ihave Hg2 := (gpts_of_zinv (F := F) d L gR2 (srow (seqOf m d) (row0 L + 2)) (Scf.trips k0_t3_loop.lb k0_t3_loop.ub k0_t3_loop.st) (by decide) _) $$ Hz2
  ihave Hg3 := (gpts_of_zinv (F := F) d L gR3 (srow (seqOf m d) (row0 L + 3)) (Scf.trips k0_t4_loop.lb k0_t4_loop.ub k0_t4_loop.st) (by decide) _) $$ Hz3
  have hA : Holds (seqOf m d) L 0 ((bA).view.read (Elt F) (View.write (Elt F) (bA).view fA (tile_body.sl.dma0 m d L) Finset.univ)) := by
    rw [View.read_write_univ]; exact holds_xA (F := F) (seqOf m d) L
  have hB : Holds (seqOf m d) L 4096 ((bB).view.read (Elt F) (View.write (Elt F) (bB).view fB (tile_body.sl.dma0_1 m d L) Finset.univ)) := by
    rw [View.read_write_univ]; exact holds_xB (F := F) (seqOf m d) L
  sl_for (hinv (F := F) d L (seqOf m d) bA (View.write (Elt F) (bA).view fA (tile_body.sl.dma0 m d L) Finset.univ) 0) $$ [HbA' Hg0 Hg1 Hg2 Hg3]
  case region =>
    intro k _
    unfold hinv
    iintro ⟨HbA, Hg0, Hg1, Hg2, Hg3⟩
    sl_exec
    -- row 0
    have hv0 : ∀ x : S16.Idx, ((tile_body.sl.v32 m d L fA k : IVec S16 32) x).toNat
        = 65 * (x 0).val + srow (seqOf m d) (row0 L + 0) (16 * (0 + k.val) + (x 0).val) :=
      pos_toNat (seqOf m d) hS (row0 L + 0) _ _ (load_toNat (F := F) (bA).view _ hA 0 (16 * k.val) _ _ (k0_off7_eq k) (by omega))
    rw [wp_assume_of _ _ _ _ (show k0_chk1 (tile_body.sl.v32 m d L fA k) from pos_lt (srow_lt hS _) hv0)]
    iapply (scatter_row (F := F) d L gR0 (Memref.set_access_whole (cc0_scratch2 : Ref sig .scVector)) (srow_lt hS _) _ hv0) $$ Hg0
    iintro Hg0
    sl_exec
    -- row 1
    have hv1 : ∀ x : S16.Idx, ((tile_body.sl.v37 m d L fA k : IVec S16 32) x).toNat
        = 65 * (x 0).val + srow (seqOf m d) (row0 L + 1) (16 * (0 + k.val) + (x 0).val) :=
      pos_toNat (seqOf m d) hS (row0 L + 1) _ _ (load_toNat (F := F) (bA).view _ hA 1 (16 * k.val) _ _ (k0_off8_eq k) (by omega))
    rw [wp_assume_of _ _ _ _ (show k0_chk2 (tile_body.sl.v37 m d L fA k) from pos_lt (srow_lt hS _) hv1)]
    iapply (scatter_row (F := F) d L gR1 (Memref.set_access_whole (cc0_scratch3 : Ref sig .scVector)) (srow_lt hS _) _ hv1) $$ Hg1
    iintro Hg1
    sl_exec
    -- row 2
    have hv2 : ∀ x : S16.Idx, ((tile_body.sl.v42 m d L fA k : IVec S16 32) x).toNat
        = 65 * (x 0).val + srow (seqOf m d) (row0 L + 2) (16 * (0 + k.val) + (x 0).val) :=
      pos_toNat (seqOf m d) hS (row0 L + 2) _ _ (load_toNat (F := F) (bA).view _ hA 2 (16 * k.val) _ _ (k0_off9_eq k) (by omega))
    rw [wp_assume_of _ _ _ _ (show k0_chk3 (tile_body.sl.v42 m d L fA k) from pos_lt (srow_lt hS _) hv2)]
    iapply (scatter_row (F := F) d L gR2 (Memref.set_access_whole (cc0_scratch4 : Ref sig .scVector)) (srow_lt hS _) _ hv2) $$ Hg2
    iintro Hg2
    sl_exec
    -- row 3
    have hv3 : ∀ x : S16.Idx, ((tile_body.sl.v47 m d L fA k : IVec S16 32) x).toNat
        = 65 * (x 0).val + srow (seqOf m d) (row0 L + 3) (16 * (0 + k.val) + (x 0).val) :=
      pos_toNat (seqOf m d) hS (row0 L + 3) _ _ (load_toNat (F := F) (bA).view _ hA 3 (16 * k.val) _ _ (k0_off10_eq k) (by omega))
    rw [wp_assume_of _ _ _ _ (show k0_chk4 (tile_body.sl.v47 m d L fA k) from pos_lt (srow_lt hS _) hv3)]
    iapply (scatter_row (F := F) d L gR3 (Memref.set_access_whole (cc0_scratch5 : Ref sig .scVector)) (srow_lt hS _) _ hv3) $$ Hg3
    iintro Hg3
    sl_exec
    sl_step
    isplitl [HbA]; · iexact HbA
    isplitl [Hg0]; · iexact Hg0
    isplitl [Hg1]; · iexact Hg1
    isplitl [Hg2]; · iexact Hg2
    iexact Hg3
  · unfold hinv
    isplitl [HbA']; · iexact HbA'
    isplitl [Hg0]; · iexact Hg0
    isplitl [Hg1]; · iexact Hg1
    isplitl [Hg2]; · iexact Hg2
    iexact Hg3
  iintro %_ Hh
  unfold hinv
  icases Hh with ⟨HbA, Hg0, Hg1, Hg2, Hg3⟩
  sl_exec (disch := exact View.amount_pos _ _ (show 0 < S4x4096.numel by decide))
  sl_for (hinv (F := F) d L (seqOf m d) bB (View.write (Elt F) (bB).view fB (tile_body.sl.dma0_1 m d L) Finset.univ) 256) $$ [HbB' Hg0 Hg1 Hg2 Hg3]
  case region =>
    intro k _
    unfold hinv
    iintro ⟨HbB, Hg0, Hg1, Hg2, Hg3⟩
    sl_exec
    -- row 0
    have hv0 : ∀ x : S16.Idx, ((tile_body.sl.v32_1 m d L fB k : IVec S16 32) x).toNat
        = 65 * (x 0).val + srow (seqOf m d) (row0 L + 0) (16 * (256 + k.val) + (x 0).val) :=
      pos_toNat (seqOf m d) hS (row0 L + 0) _ _ (load_toNat (F := F) (bB).view _ hB 0 (16 * k.val) _ _ (k0_off11_eq k) (by omega))
    rw [wp_assume_of _ _ _ _ (show k0_chk5 (tile_body.sl.v32_1 m d L fB k) from pos_lt (srow_lt hS _) hv0)]
    iapply (scatter_row (F := F) d L gR0 (Memref.set_access_whole (cc0_scratch2 : Ref sig .scVector)) (srow_lt hS _) _ hv0) $$ Hg0
    iintro Hg0
    sl_exec
    -- row 1
    have hv1 : ∀ x : S16.Idx, ((tile_body.sl.v37_1 m d L fB k : IVec S16 32) x).toNat
        = 65 * (x 0).val + srow (seqOf m d) (row0 L + 1) (16 * (256 + k.val) + (x 0).val) :=
      pos_toNat (seqOf m d) hS (row0 L + 1) _ _ (load_toNat (F := F) (bB).view _ hB 1 (16 * k.val) _ _ (k0_off12_eq k) (by omega))
    rw [wp_assume_of _ _ _ _ (show k0_chk6 (tile_body.sl.v37_1 m d L fB k) from pos_lt (srow_lt hS _) hv1)]
    iapply (scatter_row (F := F) d L gR1 (Memref.set_access_whole (cc0_scratch3 : Ref sig .scVector)) (srow_lt hS _) _ hv1) $$ Hg1
    iintro Hg1
    sl_exec
    -- row 2
    have hv2 : ∀ x : S16.Idx, ((tile_body.sl.v42_1 m d L fB k : IVec S16 32) x).toNat
        = 65 * (x 0).val + srow (seqOf m d) (row0 L + 2) (16 * (256 + k.val) + (x 0).val) :=
      pos_toNat (seqOf m d) hS (row0 L + 2) _ _ (load_toNat (F := F) (bB).view _ hB 2 (16 * k.val) _ _ (k0_off13_eq k) (by omega))
    rw [wp_assume_of _ _ _ _ (show k0_chk7 (tile_body.sl.v42_1 m d L fB k) from pos_lt (srow_lt hS _) hv2)]
    iapply (scatter_row (F := F) d L gR2 (Memref.set_access_whole (cc0_scratch4 : Ref sig .scVector)) (srow_lt hS _) _ hv2) $$ Hg2
    iintro Hg2
    sl_exec
    -- row 3
    have hv3 : ∀ x : S16.Idx, ((tile_body.sl.v47_1 m d L fB k : IVec S16 32) x).toNat
        = 65 * (x 0).val + srow (seqOf m d) (row0 L + 3) (16 * (256 + k.val) + (x 0).val) :=
      pos_toNat (seqOf m d) hS (row0 L + 3) _ _ (load_toNat (F := F) (bB).view _ hB 3 (16 * k.val) _ _ (k0_off14_eq k) (by omega))
    rw [wp_assume_of _ _ _ _ (show k0_chk8 (tile_body.sl.v47_1 m d L fB k) from pos_lt (srow_lt hS _) hv3)]
    iapply (scatter_row (F := F) d L gR3 (Memref.set_access_whole (cc0_scratch5 : Ref sig .scVector)) (srow_lt hS _) _ hv3) $$ Hg3
    iintro Hg3
    sl_exec
    sl_step
    isplitl [HbB]; · iexact HbB
    isplitl [Hg0]; · iexact Hg0
    isplitl [Hg1]; · iexact Hg1
    isplitl [Hg2]; · iexact Hg2
    iexact Hg3
  · unfold hinv
    isplitl [HbB']; · iexact HbB'
    isplitl [Hg0]; · iexact Hg0
    isplitl [Hg1]; · iexact Hg1
    isplitl [Hg2]; · iexact Hg2
    iexact Hg3
  iintro %_ Hh
  unfold hinv gpts
  icases Hh with ⟨HbB, ⟨%g0, %hg0, Hg0⟩, ⟨%g1, %hg1, Hg1⟩, ⟨%g2, %hg2, Hg2⟩, ⟨%g3, %hg3, Hg3⟩⟩
  sl_exec (disch := exact View.amount_pos _ _ (show 0 < S1040.numel by decide))
  have htr : 256 + Scf.trips k0_t6_loop.lb k0_t6_loop.ub k0_t6_loop.st = 512 := by decide
  rw [htr] at hg0 hg1 hg2 hg3
  ihave Ho0 := (Entails.of_eq (pts_oR_hist (F := F) m d L 0 0 rfl (m (oLoc d)) (tile_body.sl.dma0_2 d L g0) hg0)) $$ Ho0'
  ihave Ho1 := (Entails.of_eq (pts_oR_hist (F := F) m d L 1 1 rfl (m (oLoc d)) (tile_body.sl.dma0_3 d L g1) hg1)) $$ Ho1'
  ihave Ho2 := (Entails.of_eq (pts_oR_hist (F := F) m d L 2 2 rfl (m (oLoc d)) (tile_body.sl.dma0_4 d L g2) hg2)) $$ Ho2'
  ihave Ho3 := (Entails.of_eq (pts_oR_hist (F := F) m d L 3 3 rfl (m (oLoc d)) (tile_body.sl.dma0_5 d L g3) hg3)) $$ Ho3'
  sl_step
  isplitl [HxA' HxB' Ho0 Ho1 Ho2 Ho3]
  · isplitl [HxA' HxB']
    · isplitl [HxA']; · iapply (Entails.of_eq (pts_xA (F := F) d L _)); iexact HxA'
      iapply (Entails.of_eq (pts_xB (F := F) d L _)); iexact HxB'
    isplitl [Ho0]; · iexact Ho0
    isplitl [Ho1]; · iexact Ho1
    isplitl [Ho2]; · iexact Ho2
    iexact Ho3
  isplitl [HbA HbB Hg0 Hg1 Hg2 Hg3 Hbufs]
  · isplitl [HbA]; · iexists _; iexact HbA
    isplitl [HbB]; · iexists _; iexact HbB
    isplitl [Hg0]; · iexists _; iexact Hg0
    isplitl [Hg1]; · iexists _; iexact Hg1
    isplitl [Hg2]; · iexists _; iexact Hg2
    isplitl [Hg3]; · iexists _; iexact Hg3
    iexact Hbufs
  isplitl [Hc0 Hc1 Hc2 Hc3 Hc4 Hc5 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_hist (coordsV c s)
          xV (Memref.isWhole_whole _) oV (Memref.isWhole_whole _) bA (Memref.isWhole_whole _) bB (Memref.isWhole_whole _)
            gR0 (Memref.isWhole_whole _) gR1 (Memref.isWhole_whole _) gR2 (Memref.isWhole_whole _) gR3 (Memref.isWhole_whole _)
            cc0_scratch6 cc0_scratch7 cc0_scoped0 cc0_scoped1 cc0_scoped2 cc0_scoped3) ⟨⟩ c s := rfl

set_option maxRecDepth 1024 in
theorem tileObl (hF : (K (F := F)).Facts) (hS : SmallAll m) : (K (F := F)).TileObl (D (F := F)) 𝒱 (P m) v₀ 0 := by
  intro d c i O W hO _ _
  -- the kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF (hS d) O W hO

end Tile

end Cert.Proof

end
-- ==== Proof.Vals.lean ====
/-
  What the two TensorCore calls compute, as functions of the arrays they read: the hidden row of every token, which
  token has the larger norm, the counts of a row's last three tokens, the scores of a row's last token against every
  token, and the row that the second call makes of them and of the counts.
-/
module

public import proofs.«01_k».proof.Proof.Setup
public import Idealize.ShloMosaic.Lib.Pipeline.Value
public import Idealize.ShloMosaic.Lib.Pipeline.ValueKit

@[expose] public section

noncomputable section

namespace Cert.Proof

open Cert.KernelIdeal Cert.KernelIdeal.Gen

open Idealize.ShloMosaic
open Idealize.ShloMosaic.TcCoe
open Idealize.ShloMosaic.ValueIdx

variable {F : FTy → Type} [FloatOps F]

/-- Column `k` of a block of tokens. -/
def colv (tb : IVec S128x128 32) (k : ℕ) (hk : k < 128) : IVec S128x1 32 := fun i => tb (ValueIdx.ix2 (i 0) ⟨k, hk⟩)

/-- The hidden row of every token. -/
def hidden (e : FVec F S64x64 .f32) (w1 : FVec F S64x128 .f32) (b1 : FVec F S1x128 .f32) (w2 : FVec F S128x64 .f32) (b2 g bt : FVec F S1x64 .f32) : FVec F S64x64 .f32 :=
  k1_pay3 (k1_pay2 e w1 b1 w2 b2 g) bt

/-- Which token's norm is the larger: one where the row's is larger than the column's. -/
def larger (e : FVec F S64x64 .f32) (w1 : FVec F S64x128 .f32) (b1 : FVec F S1x128 .f32) (w2 : FVec F S128x64 .f32) (b2 g bt : FVec F S1x64 .f32) : FVec F S64x64 .f32 :=
  k1_pay5 (k1_pay2 e w1 b1 w2 b2 g) bt

/-- How often each token is among a row's last three. -/
def tails (tb : IVec S128x128 32) : FVec F S128x64 .f32 :=
  k1_pay7 (colv tb 125 (by decide)) (colv tb 126 (by decide)) (colv tb 127 (by decide))

/-- The score of a row's last token against every token. -/
def scores (tb : IVec S128x128 32) (e : FVec F S64x64 .f32) (w1 : FVec F S64x128 .f32) (b1 : FVec F S1x128 .f32) (w2 : FVec F S128x64 .f32) (b2 g bt : FVec F S1x64 .f32)
    (wq : FVec F S64x64 .f32) (bq : FVec F S1x64 .f32) : FVec F S128x64 .f32 :=
  k1_pay1 (k1_pay4 (k1_pay2 e w1 b1 w2 b2 g) bt) (k1_pay8 (k1_pay2 e w1 b1 w2 b2 g) bt (colv tb 127 (by decide))) wq
    (constant S128x64 .f32 0x00000000#32) bq

/-- The rows that the second call makes. -/
def outs (raw : IVec S128x1040 32) (G : FVec F S64x64 .f32) (lg oh : FVec F S128x64 .f32) (h wo : FVec F S64x64 .f32) (bo : FVec F S1x64 .f32) : FVec F S128x64 .f32 :=
  k2_pay1 (k2_pay2 raw oh G) (k2_pay3 raw oh G) lg h wo bo

/-! ## Whole buffers read and written at once -/

section Whole
variable {σ : RefSig} {κ : Kind} {Val : EltTy → Type} (b : Ref σ κ)

theorem whole_writes {off : Fin b.ty.shape.rank → ℕ} (h : off = fun _ => 0) (inb : ∀ a, off a + b.ty.shape.size a ≤ b.ty.shape.size a)
    (f : b.ty.Contents Val) (w : b.ty.shape.Idx → Val b.ty.elt) :
    (Memref.whole b).view.writes Val f [⟨Rect.unit off b.ty.shape.size inb, w⟩] = w := by
  subst h
  exact View.read_writes_whole (Val := Val) (Memref.whole b).view f w

theorem whole_readAt {off : Fin b.ty.shape.rank → ℕ} (h : off = fun _ => 0) (inb : ∀ a, off a + b.ty.shape.size a ≤ b.ty.shape.size a)
    (f : b.ty.Contents Val) :
    View.readAt Val (Memref.whole b).view (Rect.unit off b.ty.shape.size inb).toLoadRect f = f := by
  subst h
  funext x
  show f ((Rect.whole b.ty.shape).emb x) = f x
  rw [Rect.emb_whole_apply]

end Whole

end Cert.Proof

end
-- ==== Proof.RegA.lean ====
/-
  The first TensorCore call (the per-token values): its body run by the executor, and its region.
-/
module

public import proofs.«01_k».proof.Proof.Vals

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The level of the end of the one SparseCore call. -/
abbrev lvlEnd : ℕ := 8 * (inferInstance : SparseCore.Cfg.Blocks 1 1).fst 1

/-- The recorded waits that are known to stay at or below the level of the end of the SparseCore call. -/
def rec8 (c : Dev nD) : Set (SemLoc sig × HIx 1) := {p | (K (F := F)).lev (T c, p.1) p.2 ≤ lvlEnd}

/-- Proof data for a pipeline an entry does not run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

namespace RegA

/-- The columns of a block of tokens, as loads of one column. -/
theorem col_readAt (k : ℕ) (hk : k < 128) (inb : ∀ a, (![0, k] : Fin 2 → ℕ) a + S128x1.size a ≤ S128x128.size a) (f : IVec S128x128 32) :
    View.readAt (Elt F) (Memref.whole cc1_stg0_0).view (Rect.unit (s := S128x128) ![0, k] S128x1.size inb).toLoadRect f = colv f k hk := by
  funext i
  show f ((Rect.unit (s := S128x128) ![0, k] S128x1.size inb).emb i) = f (ValueIdx.ix2 (i 0) ⟨k, hk⟩)
  congr 1
  have h1 : (i 1).val = 0 := Nat.lt_one_iff.mp (i 1).isLt
  funext a
  refine Fin.cases ?_ (fun a => Fin.cases ?_ (fun a => a.elim0) a) a
  · exact Fin.ext (show 0 + 1 * (i 0).val = (i 0).val by omega)
  · exact Fin.ext (show k + 1 * (i 1).val = k by omega)

set_option maxHeartbeats 1000000 in
/-- The body: from the ten staged operands, the four results. -/
theorem run (c : Dev nD) (f0 : IVec S128x128 32) (f1 : FVec F S64x64 .f32) (f2 : FVec F S64x128 .f32) (f3 : FVec F S1x128 .f32) (f4 : FVec F S128x64 .f32) (f5 : FVec F S1x64 .f32) (f6 : FVec F S1x64 .f32) (f7 : FVec F S1x64 .f32) (f8 : FVec F S64x64 .f32) (f9 : FVec F S1x64 .f32)
    (g0 g3 : FVec F S64x64 .f32) (g1 g2 : FVec F S128x64 .f32) (E : Set ℕ) (Q : PUnit → sProp 𝕄) :
    iprop(pt c (stage1_0 0) f0 ∗ pt c (stage1_1 0) f1 ∗ pt c (stage1_2 0) f2 ∗ pt c (stage1_3 0) f3 ∗ pt c (stage1_4 0) f4 ∗ pt c (stage1_5 0) f5 ∗ pt c (stage1_6 0) f6 ∗ pt c (stage1_7 0) f7 ∗ pt c (stage1_8 0) f8 ∗ pt c (stage1_9 0) f9
          ∗ pt c (stage1_10 0) g0 ∗ pt c (stage1_11 0) g1 ∗ pt c (stage1_12 0) g2 ∗ pt c (stage1_13 0) g3
          ∗ (iprop(pt c (stage1_0 0) f0 ∗ pt c (stage1_1 0) f1 ∗ pt c (stage1_2 0) f2 ∗ pt c (stage1_3 0) f3 ∗ pt c (stage1_4 0) f4 ∗ pt c (stage1_5 0) f5 ∗ pt c (stage1_6 0) f6 ∗ pt c (stage1_7 0) f7 ∗ pt c (stage1_8 0) f8 ∗ pt c (stage1_9 0) f9
            ∗ pt c (stage1_10 0) (larger f1 f2 f3 f4 f5 f6 f7) ∗ pt c (stage1_11 0) (scores f0 f1 f2 f3 f4 f5 f6 f7 f8 f9)
            ∗ pt c (stage1_12 0) (tails f0) ∗ pt c (stage1_13 0) (hidden f1 f2 f3 f4 f5 f6 f7)) -∗ Q ⟨⟩))
      ⊢ wp frame (wpE (defs₀ (F := F)) Variants.none c none) E (bodyAt1 t1_0) Q := by
  iintro ⟨H0, H1, H2, H3, H4, H5, H6, H7, H8, H9, HA, HB, HC, HD, Hk⟩
  sl_unfold [bodyAt1, cc1__pre_body]
  sl_exec!
  sl_step
  have z2 : (![0, 0] : Fin 2 → ℕ) = fun _ => 0 := by funext a; fin_cases a <;> rfl
  have L1 := whole_readAt (Val := Elt F) cc1_stg1_0 z2 inb_S64x64_S64x64_0_0 f1
  have L2 := whole_readAt (Val := Elt F) cc1_stg2_0 z2 inb_S64x128_S64x128_0_0 f2
  have L3 := whole_readAt (Val := Elt F) cc1_stg3_0 z2 inb_S1x128_S1x128_0_0 f3
  have L4 := whole_readAt (Val := Elt F) cc1_stg4_0 z2 inb_S128x64_S128x64_0_0 f4
  have L5 := whole_readAt (Val := Elt F) cc1_stg5_0 z2 inb_S1x64_S1x64_0_0 f5
  have L6 := whole_readAt (Val := Elt F) cc1_stg6_0 z2 inb_S1x64_S1x64_0_0 f6
  have L7 := whole_readAt (Val := Elt F) cc1_stg7_0 z2 inb_S1x64_S1x64_0_0 f7
  have L8 := whole_readAt (Val := Elt F) cc1_stg8_0 z2 inb_S64x64_S64x64_0_0 f8
  have L9 := whole_readAt (Val := Elt F) cc1_stg9_0 z2 inb_S1x64_S1x64_0_0 f9
  have C125 := col_readAt (F := F) 125 (by decide) inb_S128x128_S128x1_0_125 f0
  have C126 := col_readAt (F := F) 126 (by decide) inb_S128x128_S128x1_0_126 f0
  have C127 := col_readAt (F := F) 127 (by decide) inb_S128x128_S128x1_0_127 f0
  have e37 : run.sl.r f1 f2 f3 f4 f5 f6 = k1_pay2 f1 f2 f3 f4 f5 f6 := by
    unfold run.sl.r; congr 1
  have eA : (stage1_10 0).view.writes (Elt F) (stage1_10 0).view.junk (run.sl.HA_1 f1 f2 f3 f4 f5 f6 f7) = larger f1 f2 f3 f4 f5 f6 f7 := by
    refine (whole_writes (Val := Elt F) cc1_stg10_0 z2 inb_S64x64_S64x64_0_0 _ _).trans ?_
    unfold larger; congr 1
  ihave HA := (Entails.of_eq (congrArg (fun x => pt c (stage1_10 0) x) eA)) $$ HA
  have eB : (stage1_11 0).view.writes (Elt F) (stage1_11 0).view.junk (run.sl.HB_1 f0 f1 f2 f3 f4 f5 f6 f7 f8 f9) = scores f0 f1 f2 f3 f4 f5 f6 f7 f8 f9 := by
    refine (whole_writes (Val := Elt F) cc1_stg11_0 z2 inb_S128x64_S128x64_0_0 _ _).trans ?_
    refine (show run.sl.v86 f0 f1 f2 f3 f4 f5 f6 f7 f8 f9
        = k1_pay1 (k1_pay4 (run.sl.r f1 f2 f3 f4 f5 f6) (View.readAt (Elt F) (Memref.whole cc1_stg7_0).view (Rect.unit ![0, 0] S1x64.size inb_S1x64_S1x64_0_0).toLoadRect f7))
            (k1_pay8 (run.sl.r f1 f2 f3 f4 f5 f6) (View.readAt (Elt F) (Memref.whole cc1_stg7_0).view (Rect.unit ![0, 0] S1x64.size inb_S1x64_S1x64_0_0).toLoadRect f7)
              (View.readAt (Elt F) (Memref.whole cc1_stg0_0).view (Rect.unit (s := S128x128) ![0, 127] S128x1.size inb_S128x128_S128x1_0_127).toLoadRect f0))
            (View.readAt (Elt F) (Memref.whole cc1_stg8_0).view (Rect.unit ![0, 0] S64x64.size inb_S64x64_S64x64_0_0).toLoadRect f8) (constant S128x64 .f32 0x00000000#32) (View.readAt (Elt F) (Memref.whole cc1_stg9_0).view (Rect.unit ![0, 0] S1x64.size inb_S1x64_S1x64_0_0).toLoadRect f9) from rfl).trans ?_
    unfold scores
    congr 1 <;> congr 1
  ihave HB := (Entails.of_eq (congrArg (fun x => pt c (stage1_11 0) x) eB)) $$ HB
  have eC : (stage1_12 0).view.writes (Elt F) (stage1_12 0).view.junk (run.sl.HC_1 f0) = tails f0 := by
    refine (whole_writes (Val := Elt F) cc1_stg12_0 z2 inb_S128x64_S128x64_0_0 _ _).trans ?_
    unfold tails; congr 1
  ihave HC := (Entails.of_eq (congrArg (fun x => pt c (stage1_12 0) x) eC)) $$ HC
  have eD : (stage1_13 0).view.writes (Elt F) (stage1_13 0).view.junk (run.sl.HD_1 f1 f2 f3 f4 f5 f6 f7) = hidden f1 f2 f3 f4 f5 f6 f7 := by
    refine (whole_writes (Val := Elt F) cc1_stg13_0 z2 inb_S64x64_S64x64_0_0 _ _).trans ?_
    unfold run.sl.r_1 hidden; congr 1
  ihave HD := (Entails.of_eq (congrArg (fun x => pt c (stage1_13 0) x) eD)) $$ HD
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  iexact HD

/-! ## The region -/

variable (V : (c : Dev nD) → (b : Ref sig .tc) → Buf (Elt F) ((c : Thread nD τ).loc b))

/-- The last 128 columns of the tokens. -/
def tailBlk (x : IVec S128x8192 32) : IVec S128x128 32 :=
  fun j => x (ValueIdx.ix2 (j 0) ⟨8064 + (j 1).val, by have h : (j 1).val < 128 := (j 1).isLt; omega⟩)

/-- The four results, at the arrays. -/
def oG (c : Dev nD) : FVec F S64x64 .f32 := larger (F := F) (V c main_arg1) (V c main_arg2) (V c main_v1) (V c main_arg4) (V c main_v2) (V c main_v3) (V c main_v4)
def oL (c : Dev nD) : FVec F S128x64 .f32 := scores (F := F) (tailBlk (V c main_arg0)) (V c main_arg1) (V c main_arg2) (V c main_v1) (V c main_arg4) (V c main_v2) (V c main_v3) (V c main_v4) (V c main_arg8) (V c main_v5)
def oO (c : Dev nD) : FVec F S128x64 .f32 := tails (F := F) (tailBlk (V c main_arg0))
def oH (c : Dev nD) : FVec F S64x64 .f32 := hidden (F := F) (V c main_arg1) (V c main_arg2) (V c main_v1) (V c main_arg4) (V c main_v2) (V c main_v3) (V c main_v4)

/-- The invariant between the region's ends: the scoped buffers the pipeline does not stage. -/
abbrev Φc (c : Dev nD) : sProp 𝕄 := Pipeline.scopedRest (Ix := HIx 1) (Name := ℕ) (U := UU) (Lvl := ℕ) (Val := Elt F) spec1 c

/-- The region's data: the arrays at `V`; after the body each operand's buffer as fetched and each result's at its value. -/
def dat (c : Dev nD) : Dat τ (Elt F) (HIx 1) ℕ UU ℕ cfg1 c where
  A w := V c (Pipeline.arrRef spec1 w)
  after w _ := match w with
    | ⟨0, _⟩ => (show IVec S128x128 32 from tailBlk (V c main_arg0))
    | ⟨1, _⟩ => (show FVec F S64x64 .f32 from V c main_arg1)
    | ⟨2, _⟩ => (show FVec F S64x128 .f32 from V c main_arg2)
    | ⟨3, _⟩ => (show FVec F S1x128 .f32 from V c main_v1)
    | ⟨4, _⟩ => (show FVec F S128x64 .f32 from V c main_arg4)
    | ⟨5, _⟩ => (show FVec F S1x64 .f32 from V c main_v2)
    | ⟨6, _⟩ => (show FVec F S1x64 .f32 from V c main_v3)
    | ⟨7, _⟩ => (show FVec F S1x64 .f32 from V c main_v4)
    | ⟨8, _⟩ => (show FVec F S64x64 .f32 from V c main_arg8)
    | ⟨9, _⟩ => (show FVec F S1x64 .f32 from V c main_v5)
    | ⟨10, _⟩ => (show FVec F S64x64 .f32 from oG V c)
    | ⟨11, _⟩ => (show FVec F S128x64 .f32 from oL V c)
    | ⟨12, _⟩ => (show FVec F S128x64 .f32 from oO V c)
    | ⟨13, _⟩ => (show FVec F S64x64 .f32 from oH V c)
  Φ _ := Φc c
  q _ := fullShare
  owed _ := 0
  recorded _ := rec8 (F := F) c

/-- What the fetch of the block of tokens stages: the last 128 columns. -/
theorem before_0 (c : Dev nD) (d : (cfg1.win 0).block.Idx → Elt F (cfg1.win 0).elt) : (dat V c).before 0 t1_0 d = (show IVec S128x128 32 from tailBlk (V c main_arg0)) := by
  unfold Dat.before; rw [if_pos (by decide)]
  funext j
  refine (show _ = V c main_arg0 ((win1_0.blk t1_0).view.emb j) from rfl).trans ?_
  have h0 : (((win1_0.blk t1_0).view.emb j 0 : Fin _) : ℕ) = (j 0).val :=
    (Pipeline.Window.rect_emb_val win1_0 t1_0 j 0).trans ((congrArg (· * _ + _) (by decide +kernel : win1_0.index t1_0 0 = 0)).trans (by omega))
  have h1 : (((win1_0.blk t1_0).view.emb j 1 : Fin _) : ℕ) = 8064 + (j 1).val :=
    (Pipeline.Window.rect_emb_val win1_0 t1_0 j 1).trans ((congrArg (· * _ + _) (by decide +kernel : win1_0.index t1_0 1 = 63)).trans (by rfl))
  refine congrArg (V c main_arg0) ?_
  funext a
  fin_cases a
  · exact Fin.ext h0
  · exact Fin.ext h1

theorem before_1 (c : Dev nD) (d : (cfg1.win 1).block.Idx → Elt F (cfg1.win 1).elt) : (dat V c).before 1 t1_0 d = (show FVec F S64x64 .f32 from V c main_arg1) := by
  unfold Dat.before; rw [if_pos (by decide)]
  funext j
  refine (show _ = V c main_arg1 ((win1_1.blk t1_0).view.emb j) from rfl).trans ?_
  refine congrArg (V c main_arg1) ?_
  funext a
  exact Fin.ext (Pipeline.Window.rect_emb_val_of_index_zero win1_1 t1_0 a ((by decide +kernel : ∀ a, win1_1.index t1_0 a = 0) a) j)

theorem before_2 (c : Dev nD) (d : (cfg1.win 2).block.Idx → Elt F (cfg1.win 2).elt) : (dat V c).before 2 t1_0 d = (show FVec F S64x128 .f32 from V c main_arg2) := by
  unfold Dat.before; rw [if_pos (by decide)]
  funext j
  refine (show _ = V c main_arg2 ((win1_2.blk t1_0).view.emb j) from rfl).trans ?_
  refine congrArg (V c main_arg2) ?_
  funext a
  exact Fin.ext (Pipeline.Window.rect_emb_val_of_index_zero win1_2 t1_0 a ((by decide +kernel : ∀ a, win1_2.index t1_0 a = 0) a) j)

theorem before_3 (c : Dev nD) (d : (cfg1.win 3).block.Idx → Elt F (cfg1.win 3).elt) : (dat V c).before 3 t1_0 d = (show FVec F S1x128 .f32 from V c main_v1) := by
  unfold Dat.before; rw [if_pos (by decide)]
  funext j
  refine (show _ = V c main_v1 ((win1_3.blk t1_0).view.emb j) from rfl).trans ?_
  refine congrArg (V c main_v1) ?_
  funext a
  exact Fin.ext (Pipeline.Window.rect_emb_val_of_index_zero win1_3 t1_0 a ((by decide +kernel : ∀ a, win1_3.index t1_0 a = 0) a) j)

theorem before_4 (c : Dev nD) (d : (cfg1.win 4).block.Idx → Elt F (cfg1.win 4).elt) : (dat V c).before 4 t1_0 d = (show FVec F S128x64 .f32 from V c main_arg4) := by
  unfold Dat.before; rw [if_pos (by decide)]
  funext j
  refine (show _ = V c main_arg4 ((win1_4.blk t1_0).view.emb j) from rfl).trans ?_
  refine congrArg (V c main_arg4) ?_
  funext a
  exact Fin.ext (Pipeline.Window.rect_emb_val_of_index_zero win1_4 t1_0 a ((by decide +kernel : ∀ a, win1_4.index t1_0 a = 0) a) j)

theorem before_5 (c : Dev nD) (d : (cfg1.win 5).block.Idx → Elt F (cfg1.win 5).elt) : (dat V c).before 5 t1_0 d = (show FVec F S1x64 .f32 from V c main_v2) := by
  unfold Dat.before; rw [if_pos (by decide)]
  funext j
  refine (show _ = V c main_v2 ((win1_5.blk t1_0).view.emb j) from rfl).trans ?_
  refine congrArg (V c main_v2) ?_
  funext a
  exact Fin.ext (Pipeline.Window.rect_emb_val_of_index_zero win1_5 t1_0 a ((by decide +kernel : ∀ a, win1_5.index t1_0 a = 0) a) j)

theorem before_6 (c : Dev nD) (d : (cfg1.win 6).block.Idx → Elt F (cfg1.win 6).elt) : (dat V c).before 6 t1_0 d = (show FVec F S1x64 .f32 from V c main_v3) := by
  unfold Dat.before; rw [if_pos (by decide)]
  funext j
  refine (show _ = V c main_v3 ((win1_6.blk t1_0).view.emb j) from rfl).trans ?_
  refine congrArg (V c main_v3) ?_
  funext a
  exact Fin.ext (Pipeline.Window.rect_emb_val_of_index_zero win1_6 t1_0 a ((by decide +kernel : ∀ a, win1_6.index t1_0 a = 0) a) j)

theorem before_7 (c : Dev nD) (d : (cfg1.win 7).block.Idx → Elt F (cfg1.win 7).elt) : (dat V c).before 7 t1_0 d = (show FVec F S1x64 .f32 from V c main_v4) := by
  unfold Dat.before; rw [if_pos (by decide)]
  funext j
  refine (show _ = V c main_v4 ((win1_7.blk t1_0).view.emb j) from rfl).trans ?_
  refine congrArg (V c main_v4) ?_
  funext a
  exact Fin.ext (Pipeline.Window.rect_emb_val_of_index_zero win1_7 t1_0 a ((by decide +kernel : ∀ a, win1_7.index t1_0 a = 0) a) j)

theorem before_8 (c : Dev nD) (d : (cfg1.win 8).block.Idx → Elt F (cfg1.win 8).elt) : (dat V c).before 8 t1_0 d = (show FVec F S64x64 .f32 from V c main_arg8) := by
  unfold Dat.before; rw [if_pos (by decide)]
  funext j
  refine (show _ = V c main_arg8 ((win1_8.blk t1_0).view.emb j) from rfl).trans ?_
  refine congrArg (V c main_arg8) ?_
  funext a
  exact Fin.ext (Pipeline.Window.rect_emb_val_of_index_zero win1_8 t1_0 a ((by decide +kernel : ∀ a, win1_8.index t1_0 a = 0) a) j)

theorem before_9 (c : Dev nD) (d : (cfg1.win 9).block.Idx → Elt F (cfg1.win 9).elt) : (dat V c).before 9 t1_0 d = (show FVec F S1x64 .f32 from V c main_v5) := by
  unfold Dat.before; rw [if_pos (by decide)]
  funext j
  refine (show _ = V c main_v5 ((win1_9.blk t1_0).view.emb j) from rfl).trans ?_
  refine congrArg (V c main_v5) ?_
  funext a
  exact Fin.ext (Pipeline.Window.rect_emb_val_of_index_zero win1_9 t1_0 a ((by decide +kernel : ∀ a, win1_9.index t1_0 a = 0) a) j)

/-- The proof data of both pipelines: this entry's, and anything for the other. -/
def pdats (adm : (p : Fin 2) → (pcfgs (F := F) p).Adm) : (p : Fin 2) → (c : Dev nD) → Dat τ (Elt F) (HIx 1) ℕ UU ℕ (Pipeline.pin (pcfgs (F := F)) adm p) c
  | ⟨0, _⟩ => fun c => dat V c
  | ⟨1, _⟩ => fun c => junkDat c

/-- The library's body obligation: the staging buffers and the invariant taken apart, the run applied, its post reassembled. -/
theorem body_obligation (c : Dev nD) : BodyObligation (dat V c) (defs₀ (F := F)) 𝒱₀ none Set.univ := fun t => by
  obtain rfl := fin_N1 t
  rw [bigSep_W1, bigSep_W1]
  simp only [show cfg1.slots t1_0 0 = (0 : Fin 1) from by decide +kernel, show cfg1.slots t1_0 1 = (0 : Fin 1) from by decide +kernel, show cfg1.slots t1_0 2 = (0 : Fin 1) from by decide +kernel, show cfg1.slots t1_0 3 = (0 : Fin 1) from by decide +kernel, show cfg1.slots t1_0 4 = (0 : Fin 1) from by decide +kernel, show cfg1.slots t1_0 5 = (0 : Fin 1) from by decide +kernel, show cfg1.slots t1_0 6 = (0 : Fin 1) from by decide +kernel, show cfg1.slots t1_0 7 = (0 : Fin 1) from by decide +kernel, show cfg1.slots t1_0 8 = (0 : Fin 1) from by decide +kernel, show cfg1.slots t1_0 9 = (0 : Fin 1) from by decide +kernel, show cfg1.slots t1_0 10 = (0 : Fin 1) from by decide +kernel, show cfg1.slots t1_0 11 = (0 : Fin 1) from by decide +kernel, show cfg1.slots t1_0 12 = (0 : Fin 1) from by decide +kernel, show cfg1.slots t1_0 13 = (0 : Fin 1) from by decide +kernel, owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩, ⟨%d11, %f11, -, H11⟩, ⟨%d12, %f12, -, H12⟩, ⟨%d13, %f13, -, H13⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  iapply (run c _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]; · iexists _; isplitr; swap; (· iexact H9); ipureintro; rfl
  isplitl [H10]; · iexists _; isplitr; swap; (· iexact H10); ipureintro; rfl
  isplitl [H11]; · iexists _; isplitr; swap; (· iexact H11); ipureintro; rfl
  isplitl [H12]; · iexists _; isplitr; swap; (· iexact H12); ipureintro; rfl
  iexists _; isplitr; swap; (· iexact H13); ipureintro; rfl

/-- The array of the selection matrix after the region. -/
theorem out_10 (c : Dev nD) : (dat V c).arrAt 10 cfg1.N = oG V c := by
  funext i
  refine ((dat V c).arrAt_emb_eq_after_last 10 t1_0 (by decide +kernel) i).trans ?_
  rfl

/-- The array of the logits after the region. -/
theorem out_11 (c : Dev nD) : (dat V c).arrAt 11 cfg1.N = oL V c := by
  funext i
  refine ((dat V c).arrAt_emb_eq_after_last 11 t1_0 (by decide +kernel) i).trans ?_
  rfl

/-- The array of the tail counts after the region. -/
theorem out_12 (c : Dev nD) : (dat V c).arrAt 12 cfg1.N = oO V c := by
  funext i
  refine ((dat V c).arrAt_emb_eq_after_last 12 t1_0 (by decide +kernel) i).trans ?_
  rfl

/-- The array of the hidden rows after the region. -/
theorem out_13 (c : Dev nD) : (dat V c).arrAt 13 cfg1.N = oH V c := by
  funext i
  refine ((dat V c).arrAt_emb_eq_after_last 13 t1_0 (by decide +kernel) i).trans ?_
  rfl

variable (Vp : (c : Dev nD) → (b : Ref sig .tc) → Buf (Elt F) ((c : Thread nD τ).loc b)) (adm : (p : Fin 2) → (pcfgs (F := F) p).Adm)

set_option backward.isDefEq.respectTransparency.types false in
/-- The region at its one entry: entered by splitting the arrays out of the unscoped buffers, left with them put back at
    `Vp`. The core owes nothing throughout, and its recorded waits stay at or below level 8. -/
def reg (R : Dev nD → sProp 𝕄) (h10 : ∀ c, Vp c main_v6_0 = oG V c) (h11 : ∀ c, Vp c main_v6_1 = oL V c) (h12 : ∀ c, Vp c main_v6_2 = oO V c) (h13 : ∀ c, Vp c main_v6_3 = oH V c)
    (hne : ∀ c (b : Ref sig .tc), b ≠ main_v6_0 → b ≠ main_v6_1 → b ≠ main_v6_2 → b ≠ main_v6_3 → Vp c b = V c b) : Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (T c) W lvlEnd⌝ ∗ owes (T c) (0 : CellTallies nD τ sig (HIx 1)) W)
  post c := iprop(unscopedBufs c (Vp c) ∗ R c ∗ ∃ W, ⌜(K (F := F)).WBelow (T c) W lvlEnd⌝ ∗ owes (T c) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hne c main_arg0 (by decide) (by decide) (by decide) (by decide)).symm
        · exact ((pdats V adm 0 c).arrAt_in 1 rfl _).trans (hne c main_arg1 (by decide) (by decide) (by decide) (by decide)).symm
        · exact ((pdats V adm 0 c).arrAt_in 2 rfl _).trans (hne c main_arg2 (by decide) (by decide) (by decide) (by decide)).symm
        · exact ((pdats V adm 0 c).arrAt_in 3 rfl _).trans (hne c main_v1 (by decide) (by decide) (by decide) (by decide)).symm
        · exact ((pdats V adm 0 c).arrAt_in 4 rfl _).trans (hne c main_arg4 (by decide) (by decide) (by decide) (by decide)).symm
        · exact ((pdats V adm 0 c).arrAt_in 5 rfl _).trans (hne c main_v2 (by decide) (by decide) (by decide) (by decide)).symm
        · exact ((pdats V adm 0 c).arrAt_in 6 rfl _).trans (hne c main_v3 (by decide) (by decide) (by decide) (by decide)).symm
        · exact ((pdats V adm 0 c).arrAt_in 7 rfl _).trans (hne c main_v4 (by decide) (by decide) (by decide) (by decide)).symm
        · exact ((pdats V adm 0 c).arrAt_in 8 rfl _).trans (hne c main_arg8 (by decide) (by decide) (by decide) (by decide)).symm
        · exact ((pdats V adm 0 c).arrAt_in 9 rfl _).trans (hne c main_v5 (by decide) (by decide) (by decide) (by decide)).symm
        · exact (out_10 V c).trans (h10 c).symm
        · exact (out_11 V c).trans (h11 c).symm
        · exact (out_12 V c).trans (h12 c).symm
        · exact (out_13 V c).trans (h13 c).symm)
      (fun b hb => hne c b (fun h => hb (h ▸ Finset.mem_image.mpr ⟨10, Finset.mem_univ _, rfl⟩)) (fun h => hb (h ▸ Finset.mem_image.mpr ⟨11, Finset.mem_univ _, rfl⟩)) (fun h => hb (h ▸ Finset.mem_image.mpr ⟨12, Finset.mem_univ _, rfl⟩)) (fun h => hb (h ▸ Finset.mem_image.mpr ⟨13, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro q hq
      rcases hW hq with h | ⟨w, s, rfl⟩
      · exact h
      · exact (SparseCore.Cfg.lev_none _ _).le.trans (Nat.zero_le _)
    iexact HO

end RegA

end Cert.Proof

end
-- ==== Proof.RegB.lean ====
/-
  The second TensorCore call (the rows from the counts): its body run by the executor, and its region.
-/
module

public import proofs.«01_k».proof.Proof.RegA

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

namespace RegB

set_option maxHeartbeats 1000000 in
/-- The body: from the seven staged operands, the rows. -/
theorem run (c : Dev nD) (f0 : IVec S128x1040 32) (f1 : FVec F S64x64 .f32) (f2 : FVec F S128x64 .f32) (f3 : FVec F S128x64 .f32) (f4 : FVec F S64x64 .f32) (f5 : FVec F S64x64 .f32) (f6 : FVec F S1x64 .f32)
    (g0 : FVec F S128x64 .f32) (E : Set ℕ) (Q : PUnit → sProp 𝕄) :
    iprop(pt c (stage2_0 0) f0 ∗ pt c (stage2_1 0) f1 ∗ pt c (stage2_2 0) f2 ∗ pt c (stage2_3 0) f3 ∗ pt c (stage2_4 0) f4 ∗ pt c (stage2_5 0) f5 ∗ pt c (stage2_6 0) f6 ∗ pt c (stage2_7 0) g0
          ∗ (iprop(pt c (stage2_0 0) f0 ∗ pt c (stage2_1 0) f1 ∗ pt c (stage2_2 0) f2 ∗ pt c (stage2_3 0) f3 ∗ pt c (stage2_4 0) f4 ∗ pt c (stage2_5 0) f5 ∗ pt c (stage2_6 0) f6 ∗ pt c (stage2_7 0) (outs f0 f1 f2 f3 f4 f5 f6)) -∗ Q ⟨⟩))
      ⊢ wp frame (wpE (defs₀ (F := F)) Variants.none c none) E (bodyAt2 t2_0) Q := by
  iintro ⟨H0, H1, H2, H3, H4, H5, H6, HA, Hk⟩
  sl_unfold [bodyAt2, cc2__post_body]
  sl_exec!
  sl_step
  have z2 : (![0, 0] : Fin 2 → ℕ) = fun _ => 0 := by funext a; fin_cases a <;> rfl
  have L0 := whole_readAt (Val := Elt F) cc2_stg0_0 z2 inb_S128x1040_S128x1040_0_0 f0
  have L1 := whole_readAt (Val := Elt F) cc2_stg1_0 z2 inb_S64x64_S64x64_0_0 f1
  have L2 := whole_readAt (Val := Elt F) cc2_stg2_0 z2 inb_S128x64_S128x64_0_0 f2
  have L3 := whole_readAt (Val := Elt F) cc2_stg3_0 z2 inb_S128x64_S128x64_0_0 f3
  have L4 := whole_readAt (Val := Elt F) cc2_stg4_0 z2 inb_S64x64_S64x64_0_0 f4
  have L5 := whole_readAt (Val := Elt F) cc2_stg5_0 z2 inb_S64x64_S64x64_0_0 f5
  have L6 := whole_readAt (Val := Elt F) cc2_stg6_0 z2 inb_S1x64_S1x64_0_0 f6
  have eA : (stage2_7 0).view.writes (Elt F) (stage2_7 0).view.junk (run.sl.HA_1 f0 f1 f2 f3 f4 f5 f6) = outs f0 f1 f2 f3 f4 f5 f6 := by
    refine (whole_writes (Val := Elt F) cc2_stg7_0 z2 inb_S128x64_S128x64_0_0 _ _).trans ?_
    refine (show run.sl.v69 f0 f1 f2 f3 f4 f5 f6
        = k2_pay1 (k2_pay2 (View.readAt (Elt F) (Memref.whole cc2_stg0_0).view (Rect.unit (s := S128x1040) ![0, 0] S128x1040.size inb_S128x1040_S128x1040_0_0).toLoadRect f0) (View.readAt (Elt F) (Memref.whole cc2_stg3_0).view (Rect.unit (s := S128x64) ![0, 0] S128x64.size inb_S128x64_S128x64_0_0).toLoadRect f3) (View.readAt (Elt F) (Memref.whole cc2_stg1_0).view (Rect.unit (s := S64x64) ![0, 0] S64x64.size inb_S64x64_S64x64_0_0).toLoadRect f1)) (k2_pay3 (View.readAt (Elt F) (Memref.whole cc2_stg0_0).view (Rect.unit (s := S128x1040) ![0, 0] S128x1040.size inb_S128x1040_S128x1040_0_0).toLoadRect f0) (View.readAt (Elt F) (Memref.whole cc2_stg3_0).view (Rect.unit (s := S128x64) ![0, 0] S128x64.size inb_S128x64_S128x64_0_0).toLoadRect f3) (View.readAt (Elt F) (Memref.whole cc2_stg1_0).view (Rect.unit (s := S64x64) ![0, 0] S64x64.size inb_S64x64_S64x64_0_0).toLoadRect f1)) (View.readAt (Elt F) (Memref.whole cc2_stg2_0).view (Rect.unit (s := S128x64) ![0, 0] S128x64.size inb_S128x64_S128x64_0_0).toLoadRect f2) (View.readAt (Elt F) (Memref.whole cc2_stg4_0).view (Rect.unit (s := S64x64) ![0, 0] S64x64.size inb_S64x64_S64x64_0_0).toLoadRect f4) (View.readAt (Elt F) (Memref.whole cc2_stg5_0).view (Rect.unit (s := S64x64) ![0, 0] S64x64.size inb_S64x64_S64x64_0_0).toLoadRect f5) (View.readAt (Elt F) (Memref.whole cc2_stg6_0).view (Rect.unit (s := S1x64) ![0, 0] S1x64.size inb_S1x64_S1x64_0_0).toLoadRect f6) from rfl).trans ?_
    unfold outs
    exact congr (congr (congr (congr (congr (congrArg k2_pay1 (congr (congr (congrArg k2_pay2 L0) L3) L1)) (congr (congr (congrArg k2_pay3 L0) L3) L1)) L2) L4) L5) L6
  ihave HA := (Entails.of_eq (congrArg (fun x => pt c (stage2_7 0) x) eA)) $$ HA
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HA

/-! ## The region -/

variable (V : (c : Dev nD) → (b : Ref sig .tc) → Buf (Elt F) ((c : Thread nD τ).loc b))

/-- The rows, at the arrays. -/
def oR (c : Dev nD) : FVec F S128x64 .f32 := outs (F := F) (V c main_v0) (V c main_v6_0) (V c main_v6_1) (V c main_v6_2) (V c main_v6_3) (V c main_arg10) (V c main_v7)

/-- The invariant between the region's ends: the scoped buffers the pipeline does not stage. -/
abbrev Φc (c : Dev nD) : sProp 𝕄 := Pipeline.scopedRest (Ix := HIx 1) (Name := ℕ) (U := UU) (Lvl := ℕ) (Val := Elt F) spec2 c

/-- The region's data: the arrays at `V`; after the body each operand's buffer as fetched and the result's at its value. -/
def dat (c : Dev nD) : Dat τ (Elt F) (HIx 1) ℕ UU ℕ cfg2 c where
  A w := V c (Pipeline.arrRef spec2 w)
  after w _ := match w with
    | ⟨0, _⟩ => (show IVec S128x1040 32 from V c main_v0)
    | ⟨1, _⟩ => (show FVec F S64x64 .f32 from V c main_v6_0)
    | ⟨2, _⟩ => (show FVec F S128x64 .f32 from V c main_v6_1)
    | ⟨3, _⟩ => (show FVec F S128x64 .f32 from V c main_v6_2)
    | ⟨4, _⟩ => (show FVec F S64x64 .f32 from V c main_v6_3)
    | ⟨5, _⟩ => (show FVec F S64x64 .f32 from V c main_arg10)
    | ⟨6, _⟩ => (show FVec F S1x64 .f32 from V c main_v7)
    | ⟨7, _⟩ => (show FVec F S128x64 .f32 from oR V c)
  Φ _ := Φc c
  q _ := fullShare
  owed _ := 0
  recorded _ := rec8 (F := F) c

theorem before_0 (c : Dev nD) (d : (cfg2.win 0).block.Idx → Elt F (cfg2.win 0).elt) : (dat V c).before 0 t2_0 d = (show IVec S128x1040 32 from V c main_v0) := by
  unfold Dat.before; rw [if_pos (by decide)]
  funext j
  refine (show _ = V c main_v0 ((win2_0.blk t2_0).view.emb j) from rfl).trans ?_
  refine congrArg (V c main_v0) ?_
  funext a
  exact Fin.ext (Pipeline.Window.rect_emb_val_of_index_zero win2_0 t2_0 a ((by decide +kernel : ∀ a, win2_0.index t2_0 a = 0) a) j)

theorem before_1 (c : Dev nD) (d : (cfg2.win 1).block.Idx → Elt F (cfg2.win 1).elt) : (dat V c).before 1 t2_0 d = (show FVec F S64x64 .f32 from V c main_v6_0) := by
  unfold Dat.before; rw [if_pos (by decide)]
  funext j
  refine (show _ = V c main_v6_0 ((win2_1.blk t2_0).view.emb j) from rfl).trans ?_
  refine congrArg (V c main_v6_0) ?_
  funext a
  exact Fin.ext (Pipeline.Window.rect_emb_val_of_index_zero win2_1 t2_0 a ((by decide +kernel : ∀ a, win2_1.index t2_0 a = 0) a) j)

theorem before_2 (c : Dev nD) (d : (cfg2.win 2).block.Idx → Elt F (cfg2.win 2).elt) : (dat V c).before 2 t2_0 d = (show FVec F S128x64 .f32 from V c main_v6_1) := by
  unfold Dat.before; rw [if_pos (by decide)]
  funext j
  refine (show _ = V c main_v6_1 ((win2_2.blk t2_0).view.emb j) from rfl).trans ?_
  refine congrArg (V c main_v6_1) ?_
  funext a
  exact Fin.ext (Pipeline.Window.rect_emb_val_of_index_zero win2_2 t2_0 a ((by decide +kernel : ∀ a, win2_2.index t2_0 a = 0) a) j)

theorem before_3 (c : Dev nD) (d : (cfg2.win 3).block.Idx → Elt F (cfg2.win 3).elt) : (dat V c).before 3 t2_0 d = (show FVec F S128x64 .f32 from V c main_v6_2) := by
  unfold Dat.before; rw [if_pos (by decide)]
  funext j
  refine (show _ = V c main_v6_2 ((win2_3.blk t2_0).view.emb j) from rfl).trans ?_
  refine congrArg (V c main_v6_2) ?_
  funext a
  exact Fin.ext (Pipeline.Window.rect_emb_val_of_index_zero win2_3 t2_0 a ((by decide +kernel : ∀ a, win2_3.index t2_0 a = 0) a) j)

theorem before_4 (c : Dev nD) (d : (cfg2.win 4).block.Idx → Elt F (cfg2.win 4).elt) : (dat V c).before 4 t2_0 d = (show FVec F S64x64 .f32 from V c main_v6_3) := by
  unfold Dat.before; rw [if_pos (by decide)]
  funext j
  refine (show _ = V c main_v6_3 ((win2_4.blk t2_0).view.emb j) from rfl).trans ?_
  refine congrArg (V c main_v6_3) ?_
  funext a
  exact Fin.ext (Pipeline.Window.rect_emb_val_of_index_zero win2_4 t2_0 a ((by decide +kernel : ∀ a, win2_4.index t2_0 a = 0) a) j)

theorem before_5 (c : Dev nD) (d : (cfg2.win 5).block.Idx → Elt F (cfg2.win 5).elt) : (dat V c).before 5 t2_0 d = (show FVec F S64x64 .f32 from V c main_arg10) := by
  unfold Dat.before; rw [if_pos (by decide)]
  funext j
  refine (show _ = V c main_arg10 ((win2_5.blk t2_0).view.emb j) from rfl).trans ?_
  refine congrArg (V c main_arg10) ?_
  funext a
  exact Fin.ext (Pipeline.Window.rect_emb_val_of_index_zero win2_5 t2_0 a ((by decide +kernel : ∀ a, win2_5.index t2_0 a = 0) a) j)

theorem before_6 (c : Dev nD) (d : (cfg2.win 6).block.Idx → Elt F (cfg2.win 6).elt) : (dat V c).before 6 t2_0 d = (show FVec F S1x64 .f32 from V c main_v7) := by
  unfold Dat.before; rw [if_pos (by decide)]
  funext j
  refine (show _ = V c main_v7 ((win2_6.blk t2_0).view.emb j) from rfl).trans ?_
  refine congrArg (V c main_v7) ?_
  funext a
  exact Fin.ext (Pipeline.Window.rect_emb_val_of_index_zero win2_6 t2_0 a ((by decide +kernel : ∀ a, win2_6.index t2_0 a = 0) a) j)

/-- The proof data of both pipelines: this entry's, and anything for the other. -/
def pdats (adm : (p : Fin 2) → (pcfgs (F := F) p).Adm) : (p : Fin 2) → (c : Dev nD) → Dat τ (Elt F) (HIx 1) ℕ UU ℕ (Pipeline.pin (pcfgs (F := F)) adm p) c
  | ⟨0, _⟩ => fun c => junkDat c
  | ⟨1, _⟩ => fun c => dat V c

/-- The library's body obligation: the staging buffers and the invariant taken apart, the run applied, its post reassembled. -/
theorem body_obligation (c : Dev nD) : BodyObligation (dat V c) (defs₀ (F := F)) 𝒱₀ none Set.univ := fun t => by
  obtain rfl := fin_N2 t
  rw [bigSep_W2, bigSep_W2]
  simp only [show cfg2.slots t2_0 0 = (0 : Fin 1) from by decide +kernel, show cfg2.slots t2_0 1 = (0 : Fin 1) from by decide +kernel, show cfg2.slots t2_0 2 = (0 : Fin 1) from by decide +kernel, show cfg2.slots t2_0 3 = (0 : Fin 1) from by decide +kernel, show cfg2.slots t2_0 4 = (0 : Fin 1) from by decide +kernel, show cfg2.slots t2_0 5 = (0 : Fin 1) from by decide +kernel, show cfg2.slots t2_0 6 = (0 : Fin 1) from by decide +kernel, show cfg2.slots t2_0 7 = (0 : Fin 1) from by decide +kernel, owns_whole_eq]
  rw [show (dat V c).Φ t2_0.castSucc = Φc c from rfl, show (dat V c).Φ t2_0.succ = Φc c from rfl,
    show (dat V c).owesAt none t2_0.succ = (dat V c).owesAt none t2_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  iapply (run c _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  iexists _; isplitr; swap; (· iexact H7); ipureintro; rfl

/-- The array of the rows after the region. -/
theorem out_7 (c : Dev nD) : (dat V c).arrAt 7 cfg2.N = oR V c := by
  funext i
  refine ((dat V c).arrAt_emb_eq_after_last 7 t2_0 (by decide +kernel) i).trans ?_
  rfl

variable (Vp : (c : Dev nD) → (b : Ref sig .tc) → Buf (Elt F) ((c : Thread nD τ).loc b)) (adm : (p : Fin 2) → (pcfgs (F := F) p).Adm)

set_option backward.isDefEq.respectTransparency.types false in
/-- The region at its one entry: entered by splitting the arrays out of the unscoped buffers, left with them put back at
    `Vp`. The core owes nothing throughout, and its recorded waits stay at or below level 8. -/
def reg (R : Dev nD → sProp 𝕄) (h7 : ∀ c, Vp c main_v8 = oR V c)
    (hne : ∀ c (b : Ref sig .tc), b ≠ main_v8 → Vp c b = V c b) : Pipeline.RegionSeg (pcfgs (F := F)) adm (pdats V adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ (K (F := F)).L (K (F := F)).lev 1 fun _ _ => rfl
  pre c := iprop(unscopedBufs c (V c) ∗ R c ∗ ∃ W, ⌜(K (F := F)).WBelow (T c) W lvlEnd⌝ ∗ owes (T c) (0 : CellTallies nD τ sig (HIx 1)) W)
  post c := iprop(unscopedBufs c (Vp c) ∗ R c ∗ ∃ W, ⌜(K (F := F)).WBelow (T c) W lvlEnd⌝ ∗ owes (T c) (0 : CellTallies nD τ sig (HIx 1)) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V adm) launch2.win launch2.arr_whole c
      ((pdats V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitr; · iempintro
    isplitl [Hrest] <;> iassumption
  hin c := by
    rw [show (pdats V adm 1 c).Φ 0 = Φc c from rfl]
    iintro ⟨-, -, Hr⟩; iexact Hr
  hout c := by
    rw [Pipeline.ownSems0_none, show (pdats V adm 1 c).Φ (Fin.last _) = Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V adm) ((pdats V adm 1 c).share_full fun _ => rfl) (V c) (Vp c) ((pdats V adm 1 c).arrAt · cfg2.N)
      (fun w => by
        fin_cases w
        · exact ((pdats V adm 1 c).arrAt_in 0 rfl _).trans (hne c main_v0 (by decide)).symm
        · exact ((pdats V adm 1 c).arrAt_in 1 rfl _).trans (hne c main_v6_0 (by decide)).symm
        · exact ((pdats V adm 1 c).arrAt_in 2 rfl _).trans (hne c main_v6_1 (by decide)).symm
        · exact ((pdats V adm 1 c).arrAt_in 3 rfl _).trans (hne c main_v6_2 (by decide)).symm
        · exact ((pdats V adm 1 c).arrAt_in 4 rfl _).trans (hne c main_v6_3 (by decide)).symm
        · exact ((pdats V adm 1 c).arrAt_in 5 rfl _).trans (hne c main_arg10 (by decide)).symm
        · exact ((pdats V adm 1 c).arrAt_in 6 rfl _).trans (hne c main_v7 (by decide)).symm
        · exact (out_7 V c).trans (h7 c).symm)
      (fun b hb => hne c b (fun h => hb (h ▸ Finset.mem_image.mpr ⟨7, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro q hq
      rcases hW hq with h | ⟨w, s, rfl⟩
      · exact h
      · exact (SparseCore.Cfg.lev_none _ _).le.trans (Nat.zero_le _)
    iexact HO

end RegB

end Cert.Proof

end
-- ==== Proof.Launch.lean ====
/-
  The program's run: the SparseCore call, the reshapes, the two TensorCore calls, from any memory whose tokens are below
  64 — every buffer's final contents.
-/
module

public import proofs.«01_k».proof.Proof.Tile
public import proofs.«01_k».proof.Proof.RegB

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The valuations -/

/-- The reshape of a bias or scale to one row. -/
abbrev op1 : HloOp τ sig (Elt F) := StableHlo.reshape main_arg3 main_v1 (rfl : (.f32 : EltTy) = .f32) shapeCasts_S128_S1x128
abbrev op2 : HloOp τ sig (Elt F) := StableHlo.reshape main_arg5 main_v2 (rfl : (.f32 : EltTy) = .f32) shapeCasts_S64_S1x64
abbrev op3 : HloOp τ sig (Elt F) := StableHlo.reshape main_arg6 main_v3 (rfl : (.f32 : EltTy) = .f32) shapeCasts_S64_S1x64
abbrev op4 : HloOp τ sig (Elt F) := StableHlo.reshape main_arg7 main_v4 (rfl : (.f32 : EltTy) = .f32) shapeCasts_S64_S1x64
abbrev op5 : HloOp τ sig (Elt F) := StableHlo.reshape main_arg9 main_v5 (rfl : (.f32 : EltTy) = .f32) shapeCasts_S64_S1x64
abbrev op7 : HloOp τ sig (Elt F) := StableHlo.reshape main_arg11 main_v7 (rfl : (.f32 : EltTy) = .f32) shapeCasts_S64_S1x64

/-- The contents at launch, after the SparseCore call, before the first TensorCore call. -/
def V0 (d : Dev nD) : Valuation τ sig (Elt F) := fun b => m (d, b)
def VA (d : Dev nD) : Valuation τ sig (Elt F) := Function.update (V0 m d) (Proc.devRef .tc main_v0) (histOf m d)
def VB (d : Dev nD) : Valuation τ sig (Elt F) :=
  (op5 (F := F)).result ((op4 (F := F)).result ((op3 (F := F)).result ((op2 (F := F)).result ((op1 (F := F)).result (VA m d)))))
/-- A valuation at the TensorCore's references. -/
abbrev tcV (W : Dev nD → Valuation τ sig (Elt F)) : (c : Dev nD) → (b : Ref sig .tc) → Buf (Elt F) ((c : Thread nD τ).loc b) :=
  fun c b => W c (Proc.devRef .tc b)
/-- After the first TensorCore call, before the second, and at the end. -/
def VC (d : Dev nD) : Valuation τ sig (Elt F) :=
  Function.update (Function.update (Function.update (Function.update (VB m d)
    (Proc.devRef .tc main_v6_0) (RegA.oG (tcV (VB m)) d)) (Proc.devRef .tc main_v6_1) (RegA.oL (tcV (VB m)) d))
    (Proc.devRef .tc main_v6_2) (RegA.oO (tcV (VB m)) d)) (Proc.devRef .tc main_v6_3) (RegA.oH (tcV (VB m)) d)
def VD (d : Dev nD) : Valuation τ sig (Elt F) := (op7 (F := F)).result (VC m d)
def VE (d : Dev nD) : Valuation τ sig (Elt F) := Function.update (VD m d) (Proc.devRef .tc main_v8) (RegB.oR (tcV (VD m)) d)

theorem ne_dev {r r' : Ref sig .tc} (h : r ≠ r') : (Proc.devRef .tc r : DevRef τ sig) ≠ Proc.devRef .tc r' := StableHlo.devRef_ne_of_ne h

theorem VC_3 (d : Dev nD) : tcV (VC m) d main_v6_3 = RegA.oH (tcV (VB m)) d := Function.update_self _ _ _
theorem VC_2 (d : Dev nD) : tcV (VC m) d main_v6_2 = RegA.oO (tcV (VB m)) d :=
  (Function.update_of_ne (ne_dev (by decide)) _ _).trans (Function.update_self _ _ _)
theorem VC_1 (d : Dev nD) : tcV (VC m) d main_v6_1 = RegA.oL (tcV (VB m)) d :=
  (Function.update_of_ne (ne_dev (by decide)) _ _).trans ((Function.update_of_ne (ne_dev (by decide)) _ _).trans (Function.update_self _ _ _))
theorem VC_0 (d : Dev nD) : tcV (VC m) d main_v6_0 = RegA.oG (tcV (VB m)) d :=
  (Function.update_of_ne (ne_dev (by decide)) _ _).trans ((Function.update_of_ne (ne_dev (by decide)) _ _).trans
    ((Function.update_of_ne (ne_dev (by decide)) _ _).trans (Function.update_self _ _ _)))
theorem VC_ne (d : Dev nD) (b : Ref sig .tc) (h0 : b ≠ main_v6_0) (h1 : b ≠ main_v6_1) (h2 : b ≠ main_v6_2) (h3 : b ≠ main_v6_3) :
    tcV (VC m) d b = tcV (VB m) d b :=
  (Function.update_of_ne (ne_dev h3) _ _).trans ((Function.update_of_ne (ne_dev h2) _ _).trans
    ((Function.update_of_ne (ne_dev h1) _ _).trans (Function.update_of_ne (ne_dev h0) _ _)))
theorem VE_8 (d : Dev nD) : tcV (VE m) d main_v8 = RegB.oR (tcV (VD m)) d := Function.update_self _ _ _
theorem VE_ne (d : Dev nD) (b : Ref sig .tc) (h : b ≠ main_v8) : tcV (VE m) d b = tcV (VD m) d b := Function.update_of_ne (ne_dev h) _ _

/-! ## The unscoped buffers -/

/-- The TensorCore's unscoped references. -/
def ucRefs : Finset (DevRef τ sig) := (StableHlo.tcRefs τ sig).filter fun b => ¬ b.isScoped

theorem unscopedBufs_held (c : Dev nD) (W : Dev nD → Valuation τ sig (Elt F)) :
    (unscopedBufs c (tcV W c) : sProp 𝕄) = held (T c) ucRefs (W c) := by
  unfold unscopedBufs held ucRefs StableHlo.tcRefs
  rw [Finset.filter_map, bigSep_map]
  rfl

theorem unscopedBufs_launch (d : Dev nD) :
    (unscopedBufs d (fun b => m ((SparseCore.T d).loc b)) : sProp 𝕄) = held (SparseCore.T d) ucRefs (V0 m d) := by
  unfold unscopedBufs held ucRefs StableHlo.tcRefs
  rw [Finset.filter_map, bigSep_map]
  rfl

theorem mem_uc (b : Ref sig .tc) (h : b.isScoped = false) : (Proc.devRef .tc b : DevRef τ sig) ∈ ucRefs := by
  unfold ucRefs StableHlo.tcRefs
  refine Finset.mem_filter.2 ⟨Finset.mem_map.2 ⟨b, Finset.mem_univ _, rfl⟩, ?_⟩
  intro hs
  exact absurd (h.symm.trans hs) (by decide)

/-- The two arrays of the SparseCore call apart. -/
abbrev S2 : Finset (DevRef τ sig) := {Proc.devRef .tc main_arg0, Proc.devRef .tc main_v0}

theorem S2_sub : S2 ⊆ ucRefs := by
  intro b hb
  rcases Finset.mem_insert.1 hb with rfl | hb
  · exact mem_uc _ rfl
  · rw [Finset.mem_singleton.1 hb]; exact mem_uc _ rfl

theorem held_S2 (d : Dev nD) (W : Valuation τ sig (Elt F)) :
    (held (T d) S2 W : sProp 𝕄) = iprop((xLoc d ↦{fullShare} W (Proc.devRef .tc main_arg0)) ∗ oLoc d ↦{fullShare} W (Proc.devRef .tc main_v0)) := by
  unfold held S2
  rw [SparseCore.bigSep_insert' (by decide), bigSep_singleton]

theorem held_rest (d : Dev nD) : (held (T d) (ucRefs \ S2) (VA m d) : sProp 𝕄) = held (T d) (ucRefs \ S2) (V0 m d) :=
  held_congr (T d) fun b hb => Function.update_of_ne (fun h => (Finset.mem_sdiff.1 hb).2 (by rw [h]; exact Finset.mem_insert_of_mem (Finset.mem_singleton_self _))) _ _

theorem op_sub {op : HloOp τ sig (Elt F)} {x y : Ref sig .tc} (h : op.bufs = {(Proc.devRef .tc x : DevRef τ sig), Proc.devRef .tc y})
    (hx : x.isScoped = false) (hy : y.isScoped = false) : op.bufs ⊆ ucRefs := by
  rw [h]
  intro b hb
  rcases Finset.mem_insert.1 hb with rfl | hb
  · exact mem_uc _ hx
  · rw [Finset.mem_singleton.1 hb]; exact mem_uc _ hy

/-! ## The two TensorCore calls -/

abbrev adm : (p : Fin 2) → (pcfgs (F := F) p).Adm := fun p => (cfgs p).toPCfg_adm

theorem pinj : Function.Injective (Pipeline.cellOf (nD := nD) (τ := τ) (Pipeline.pin (pcfgs (F := F)) adm)) := cellOf_inj

/-- What the launch deals device `d` for the pipeline `p`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- The TensorCore owes nothing, its recorded waits below the end of the SparseCore call. -/
abbrev owesEnd (d : Dev nD) : sProp 𝕄 :=
  iprop(∃ W, ⌜(K (F := F)).WBelow (T d) W lvlEnd⌝ ∗ owes (T d) (0 : CellTallies nD τ sig (HIx 1)) W)

/-- The first call's region between the valuations before and after it. -/
def regA : Pipeline.RegionSeg (pcfgs (F := F)) adm (RegA.pdats (tcV (VB m)) adm) none defs₀ 𝒱₀ (K (F := F)).L (K (F := F)).lev 0 :=
  RegA.reg (tcV (VB m)) (tcV (VC m)) adm (fun _ => iprop(emp)) (VC_0 m) (VC_1 m) (VC_2 m) (VC_3 m) (VC_ne m)
def regB : Pipeline.RegionSeg (pcfgs (F := F)) adm (RegB.pdats (tcV (VD m)) adm) none defs₀ 𝒱₀ (K (F := F)).L (K (F := F)).lev 1 :=
  RegB.reg (tcV (VD m)) (tcV (VE m)) adm (fun _ => iprop(emp)) (VE_8 m) (VE_ne m)

/-- The entry of a pipeline, as the program's text and as the pipelines' own lifted. -/
theorem lift_entry (p : Fin 2) :
    (Prog.lift (.customCall (SparseCore.inner (Pipeline.entry p)) ()) : Prog (TpuEff nD τ sig (Elt F) (SparseCore.Sig (Pipeline.Sig Λ₀ (Fin 2) fun p => (pcfgs (F := F) p).Adm) 1) .tc) PUnit)
      = SparseCore.liftProg (.op (.customCall (Pipeline.entry p) ()) .ret : Prog (TpuEff nD τ sig (Elt F) (ΛP (F := F)) .tc) PUnit) := rfl

theorem wp_entry (p : Fin 2) (d : Dev nD) (Q : PUnit → sProp 𝕄) :
    wp frame (wpE (D (F := F)) 𝒱 (SparseCore.T d) none) Set.univ (.op (.customCall (Pipeline.entry p) ()) .ret : Prog (TpuEff nD τ sig (Elt F) (ΛP (F := F)) .tc) PUnit) Q
      ⊢ wp frame (wpE ((K (F := F)).defs (D (F := F))) 𝒱 (SparseCore.T d) none) Set.univ
          (Prog.lift (.customCall (SparseCore.inner (Pipeline.entry p)) ()) : Prog (TpuEff nD τ sig (Elt F) (SparseCore.Sig (Pipeline.Sig Λ₀ (Fin 2) fun p => (pcfgs (F := F) p).Adm) 1) .tc) PUnit) Q := by
  rw [lift_entry]
  exact (K (F := F)).wp_liftProg (D (F := F)) 𝒱 (SparseCore.T d) Set.univ none _ Q

theorem wp_regA [∀ e, Nonempty (Elt F e)] (κ : GSem nD τ sig → ℕ) (d : Dev nD) (Q : PUnit → sProp 𝕄) :
    iprop((K (F := F)).ctx EH (P m) κ ∗ boundary (T d) ∗ held (T d) ucRefs (VB m d) ∗ owesEnd d ∗ ghost 0 d
        ∗ (iprop(boundary (T d) ∗ held (T d) ucRefs (VC m d) ∗ owesEnd d) -∗ Q ⟨⟩))
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (Pipeline.Sig Λ₀ (Fin 2) fun p => (pcfgs (F := F) p).Adm) 1) .tc) PUnit) Q := by
  refine BIBase.Entails.trans ?_ (wp_entry 0 d Q)
  refine BIBase.Entails.trans ?_ (Pipeline.RegionSeg.wp (pcfgs (F := F)) adm (RegA.pdats (tcV (VB m)) adm) none pinj EP defs₀ 𝒱₀
    (K (F := F)).L (K (F := F)).lev (regA m) d none (fun u hu => nomatch hu) .ret Q)
  unfold ghost
  iintro ⟨Hctx, Hb, Hh, HO, ⟨Hg, Ht⟩, Hk⟩
  isplitl [Hk]
  · rw [wp_ret]
    iintro ⟨Hb, Hp⟩
    imodintro
    iapply Hk
    isplitl [Hb]; · iexact Hb
    rw [← unscopedBufs_held d (VC m)]
    ihave Hp' := (Entails.of_eq (show (regA m).post d = iprop(unscopedBufs d (tcV (VC m) d) ∗ emp ∗ owesEnd d) from rfl)) $$ Hp
    icases Hp' with ⟨Hu, -, HO⟩
    isplitl [Hu]; · iexact Hu
    iexact HO
  isplitl [Hb]; · iexact Hb
  isplitl [Hh HO]
  · iapply (Entails.of_eq (show iprop(unscopedBufs d (tcV (VB m) d) ∗ emp ∗ owesEnd d) = (regA m).pre d from rfl))
    rw [unscopedBufs_held d (VB m)]
    isplitl [Hh]; · iexact Hh
    isplitr; · iempintro
    iexact HO
  isplitl [Hctx]; · iapply ((K (F := F)).ctx_levAts κ); iexact Hctx
  isplitl [Hg]; · iexact Hg
  iexact Ht

theorem wp_regB [∀ e, Nonempty (Elt F e)] (κ : GSem nD τ sig → ℕ) (d : Dev nD) (Q : PUnit → sProp 𝕄) :
    iprop((K (F := F)).ctx EH (P m) κ ∗ boundary (T d) ∗ held (T d) ucRefs (VD m d) ∗ owesEnd d ∗ ghost 1 d
        ∗ (iprop(boundary (T d) ∗ held (T d) ucRefs (VE m d) ∗ owesEnd d) -∗ Q ⟨⟩))
      ⊢ wp frame (wpE ((K (F := F)).defs (D (F := F))) 𝒱 (SparseCore.T d) none) Set.univ
          (Prog.lift (.customCall (SparseCore.inner (Pipeline.entry 1)) ()) : Prog (TpuEff nD τ sig (Elt F) (SparseCore.Sig (Pipeline.Sig Λ₀ (Fin 2) fun p => (pcfgs (F := F) p).Adm) 1) .tc) PUnit) Q := by
  refine BIBase.Entails.trans ?_ (wp_entry 1 d Q)
  refine BIBase.Entails.trans ?_ (Pipeline.RegionSeg.wp (pcfgs (F := F)) adm (RegB.pdats (tcV (VD m)) adm) none pinj EP defs₀ 𝒱₀
    (K (F := F)).L (K (F := F)).lev (regB m) d none (fun u hu => nomatch hu) .ret Q)
  unfold ghost
  iintro ⟨Hctx, Hb, Hh, HO, ⟨Hg, Ht⟩, Hk⟩
  isplitl [Hk]
  · rw [wp_ret]
    iintro ⟨Hb, Hp⟩
    imodintro
    iapply Hk
    isplitl [Hb]; · iexact Hb
    rw [← unscopedBufs_held d (VE m)]
    ihave Hp' := (Entails.of_eq (show (regB m).post d = iprop(unscopedBufs d (tcV (VE m) d) ∗ emp ∗ owesEnd d) from rfl)) $$ Hp
    icases Hp' with ⟨Hu, -, HO⟩
    isplitl [Hu]; · iexact Hu
    iexact HO
  isplitl [Hb]; · iexact Hb
  isplitl [Hh HO]
  · iapply (Entails.of_eq (show iprop(unscopedBufs d (tcV (VD m) d) ∗ emp ∗ owesEnd d) = (regB m).pre d from rfl))
    rw [unscopedBufs_held d (VD m)]
    isplitl [Hh]; · iexact Hh
    isplitr; · iempintro
    iexact HO
  isplitl [Hctx]; · iapply ((K (F := F)).ctx_levAts κ); iexact Hctx
  isplitl [Hg]; · iexact Hg
  iexact Ht

/-! ## The launch element -/

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

theorem bigSep_emp' {I : Type} (s : Finset I) : bigSep s (fun _ => iprop(emp)) = (iprop(emp) : sProp 𝕄) := bigSep_emp_const s

abbrev G (d : Dev nD) : sProp 𝕄 := iprop(ghost 0 d ∗ ghost 1 d)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) pinj) (Pipeline.launchToks (Pipeline.pin (pcfgs (F := F)) adm) pinj), 1) : UP × Counters)) $$ Hu
  icases H with ⟨HH, HR⟩
  ihave H := (own_pair_emb embR (initOf (Pipeline.cells (Pipeline.pin (pcfgs (F := F)) adm) pinj) (Pipeline.launchToks (Pipeline.pin (pcfgs (F := F)) adm) pinj)) (1 : Counters)) $$ HR
  icases H with ⟨HP, -⟩
  imod (Pipeline.fund_ghost (Pipeline.pin (pcfgs (F := F)) adm) EP pinj) $$ HP with ⟨Hg, Ht⟩
  imodintro
  isplitl [HH]; · iexact HH
  isplitl [Hg Ht]
  · have e : (bigSep Finset.univ (G (F := F)) : sProp 𝕄) = iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) := by
      rw [← bigSep_sep']
      refine bigSep_congr fun d _ => ?_
      rw [← bigSep_sep']
      exact (BI.bigSep_fin_two (fun p => (iprop(Pipeline.cellsGhost (Pipeline.pin (pcfgs (F := F)) adm) EP p d ∗ Pipeline.toksInit (Pipeline.pin (pcfgs (F := F)) adm) EP p d) : sProp 𝕄))).symm
    rw [e]
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem st0_eq (d : Dev nD) :
    (bigSep Finset.univ fun c : Fin ((K (F := F)).nCore 0) => (P m).st 0 d c) = (held (T d) S2 (V0 m d) : sProp 𝕄) := by
  rw [held_S2]
  show (bigSep Finset.univ fun c : Fin 2 => iprop((xLoc d ↦[xCore c.val]{fullShare} m (xLoc d)) ∗ oLoc d ↦[oCore c.val]{fullShare} m (oLoc d)))
    = iprop((xLoc d ↦{fullShare} m (xLoc d)) ∗ oLoc d ↦{fullShare} m (oLoc d))
  rw [bigSep_sep', ← x_cores, ← o_cores]

theorem VA_arg0 (d : Dev nD) : VA m d (Proc.devRef .tc main_arg0) = m (xLoc d) := Function.update_of_ne (ne_dev (by decide)) _ _
theorem VA_v0 (d : Dev nD) : VA m d (Proc.devRef .tc main_v0) = histOf m d := Function.update_self _ _ _

theorem dn0_eq (d : Dev nD) :
    (bigSep Finset.univ fun c : Fin ((K (F := F)).nCore 0) => (P m).dn 0 d c) = (held (T d) S2 (VA m d) : sProp 𝕄) := by
  rw [held_S2, VA_arg0, VA_v0]
  show (bigSep Finset.univ fun c : Fin 2 => iprop((xLoc d ↦[xCore c.val]{fullShare} m (xLoc d)) ∗ oLoc d ↦[oCore c.val]{fullShare} histOf m d)) = _
  rw [bigSep_sep', ← x_cores, ← o_cores]

/-- The TensorCore after the call: it owes nothing, and the rest. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_one (d : Dev nD) : ((K (F := F)).tcSt EH d 1 : sProp 𝕄) = iprop(owesEnd d ∗ tcRest d) := by
  unfold SparseCore.Cfg.tcSt
  rw [(K (F := F)).Otc_end d le_rfl]
  rfl

/-- What @main leaves: every unscoped buffer at its final contents. -/
abbrev FIN (d : Dev nD) : sProp 𝕄 := held (T d) ucRefs (VE m d)

set_option maxHeartbeats 1000000 in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_launch m d, held_sub_split (T d) S2_sub (V0 m d), ← st0_eq]
  simp only [main, wp_bind, wp_pure]
  iintro ⟨#Hctx, Hst, ⟨Hb, ⟨Hs2, Hrest⟩, Hts, -⟩, ⟨Hg0, Hg1⟩⟩
  iapply ((K (F := F)).wp_run (D (F := F)) 𝒱 (EH := EH) (P := P m) κ d 0) $$ [Hst Hs2 Hrest Hb Hts Hg0 Hg1]
  isplitr; · iexact Hctx
  isplitl [Hst]; · iexact Hst
  isplitl [Hs2]; · iexact Hs2
  iintro ⟨Hst, Hdn⟩
  ihave Hh : (held (T d) ucRefs (VA m d) : sProp 𝕄) $$ [Hdn Hrest]
  · rw [held_sub_split (T d) S2_sub (VA m d), held_rest, ← dn0_eq]
    isplitl [Hdn] <;> iassumption
  ihave Hst' := (Entails.of_eq (show (K (F := F)).tcSt EH d ((0 : Fin 1).val + 1) = iprop(owesEnd d ∗ tcRest d) from tcSt_one d)) $$ Hst
  icases Hst' with ⟨HO, Htr⟩
  iapply (wp_hlo_within 𝒱 (SparseCore.T d) none Set.univ (op := op1) (S := ucRefs) (op_sub rfl rfl rfl) (V := VA m d)) $$ [Hb Hh]
  · isplitl [Hb] <;> iassumption
  iintro ⟨Hb, Hh⟩
  rw [wp_ret]; imodintro
  iapply (wp_hlo_within 𝒱 (SparseCore.T d) none Set.univ (op := op2) (S := ucRefs) (op_sub rfl rfl rfl) (V := (op1 (F := F)).result (VA m d))) $$ [Hb Hh]
  · isplitl [Hb] <;> iassumption
  iintro ⟨Hb, Hh⟩
  rw [wp_ret]; imodintro
  iapply (wp_hlo_within 𝒱 (SparseCore.T d) none Set.univ (op := op3) (S := ucRefs) (op_sub rfl rfl rfl) (V := (op2 (F := F)).result ((op1 (F := F)).result (VA m d)))) $$ [Hb Hh]
  · isplitl [Hb] <;> iassumption
  iintro ⟨Hb, Hh⟩
  rw [wp_ret]; imodintro
  iapply (wp_hlo_within 𝒱 (SparseCore.T d) none Set.univ (op := op4) (S := ucRefs) (op_sub rfl rfl rfl) (V := (op3 (F := F)).result ((op2 (F := F)).result ((op1 (F := F)).result (VA m d))))) $$ [Hb Hh]
  · isplitl [Hb] <;> iassumption
  iintro ⟨Hb, Hh⟩
  rw [wp_ret]; imodintro
  iapply (wp_hlo_within 𝒱 (SparseCore.T d) none Set.univ (op := op5) (S := ucRefs) (op_sub rfl rfl rfl) (V := (op4 (F := F)).result ((op3 (F := F)).result ((op2 (F := F)).result ((op1 (F := F)).result (VA m d)))))) $$ [Hb Hh]
  · isplitl [Hb] <;> iassumption
  iintro ⟨Hb, Hh⟩
  rw [wp_ret]; imodintro
  ihave Hh' := (Entails.of_eq (show held (T d) ucRefs ((op5 (F := F)).result ((op4 (F := F)).result ((op3 (F := F)).result ((op2 (F := F)).result ((op1 (F := F)).result (VA m d)))))) = held (T d) ucRefs (VB m d) from rfl)) $$ Hh
  iapply (wp_regA m κ d) $$ [Hb Hh' HO Hg0 Hg1 Htr Hts]
  isplitr; · iexact Hctx
  isplitl [Hb]; · iexact Hb
  isplitl [Hh']; · iexact Hh'
  isplitl [HO]; · iexact HO
  isplitl [Hg0]; · iexact Hg0
  iintro ⟨Hb, Hh, HO⟩
  iapply (wp_hlo_within 𝒱 (SparseCore.T d) none Set.univ (op := op7) (S := ucRefs) (op_sub rfl rfl rfl) (V := VC m d)) $$ [Hb Hh]
  · isplitl [Hb] <;> iassumption
  iintro ⟨Hb, Hh⟩
  rw [wp_ret]; imodintro
  ihave Hh' := (Entails.of_eq (show held (T d) ucRefs ((op7 (F := F)).result (VC m d)) = held (T d) ucRefs (VD m d) from rfl)) $$ Hh
  iapply (wp_regB m κ d) $$ [Hb Hh' HO Hg1 Htr Hts]
  isplitr; · iexact Hctx
  isplitl [Hb]; · iexact Hb
  isplitl [Hh']; · iexact Hh'
  isplitl [HO]; · iexact HO
  isplitl [Hg1]; · iexact Hg1
  iintro ⟨Hb, Hh, HO⟩
  imodintro
  isplitl [HO Htr]
  · rw [tcSt_one]; isplitl [HO] <;> iassumption
  isplitl [Hh]; · iexact Hh
  isplitl [Hb] <;> iassumption

def fq (d : Dev nD) (s' : Phys nD τ sig (Elt F)) : Prop := ∀ b ∈ ucRefs, s'.mem.mem (d, b) = VE m d b

theorem hfin (d : Dev nD) (s' : Phys nD τ sig (Elt F)) : iprop(FIN m d ∗ SI s') ⊢ (⌜fq m d s'⌝ : sProp 𝕄) := by
  have one : ∀ b : {b : DevRef τ sig // b ∈ ucRefs}, iprop(FIN m d ∗ SI s') ⊢ (⌜s'.mem.mem (d, b.1) = VE m d b.1⌝ : sProp 𝕄) := by
    intro b
    unfold FIN held
    iintro ⟨H, HSI⟩
    have he : (bigSep ucRefs fun r => (((d, r) : Loc nD τ sig) ↦{fullShare} VE m d r : sProp 𝕄)) ⊢ ((d, b.1) : Loc nD τ sig) ↦{fullShare} VE m d b.1 :=
      BI.bigSep_elim b.2
    ihave H' := he $$ H
    ihave H2 := (SI_pointsTo_agree (st := s') (ℓ := (d, b.1)) (I := Finset.univ) (q := fullShare) (f := VE m d b.1)) $$ [HSI H']
    · isplitl [HSI] <;> iassumption
    icases H2 with %h
    ipureintro; exact funext fun i => h i (Finset.mem_univ i)
  refine ((Laws.forall_intro one).trans Laws.pure_forall.2).trans (Laws.pure_mono fun h b hb => h ⟨b, hb⟩)

/-! ## The program's run -/

def QC : PUnit × MemSt nD τ sig (Elt F) → Prop := fun r => (∀ c : Dev nD, ∀ b ∈ ucRefs, r.2.mem (c, b) = VE m c b) ∧ r.2.sem = fun _ => 0

theorem run_main [∀ e, Nonempty (Elt F e)] (hS : SmallAll m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hS)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof

end
-- ==== Proof.Frames.lean ====
/-
  The frames: the kernel's twelve arguments are as they were and its counters are zero, from any memory whose tokens
  are below 64; the reference's likewise.
-/
module

public import proofs.«01_k».proof.Proof.Launch
public import proofs.«01_k».proof.Proof.Gen.Kernel
public import proofs.«01_k».proof.Proof.Gen.Pre_seq_in_vocab
public import proofs.«01_k».proof.Proof.Gen.Pre_tokens_apart
public import proofs.«01_k».proof.Proof.Gen.ReferenceIdeal
public import proofs.«01_k».proof.Proof.Gen.ReferenceIdeal.Run

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ)

/-! ## The valuations at the references -/

theorem VA_ne (d : Dev nD) (b : Ref sig .tc) (h : b ≠ main_v0) : tcV (VA m) d b = m ((d : Thread nD τ).loc b) :=
  Function.update_of_ne (ne_dev h) _ _

theorem VB_ne (d : Dev nD) (b : Ref sig .tc) (h1 : b ≠ main_v1) (h2 : b ≠ main_v2) (h3 : b ≠ main_v3) (h4 : b ≠ main_v4) (h5 : b ≠ main_v5) :
    tcV (VB m) d b = tcV (VA m) d b :=
  (StableHlo.reshape_result_ne _ _ _ _ _ _ _ h5).trans ((StableHlo.reshape_result_ne _ _ _ _ _ _ _ h4).trans
    ((StableHlo.reshape_result_ne _ _ _ _ _ _ _ h3).trans ((StableHlo.reshape_result_ne _ _ _ _ _ _ _ h2).trans
      (StableHlo.reshape_result_ne _ _ _ _ _ _ _ h1))))

theorem VD_ne (d : Dev nD) (b : Ref sig .tc) (h : b ≠ main_v7) : tcV (VD m) d b = tcV (VC m) d b :=
  StableHlo.reshape_result_ne _ _ _ _ _ _ _ h

/-- A reference no operation of @main writes is as it was launched. -/
theorem VE_arg (d : Dev nD) (b : Ref sig .tc)
    (h : b ∉ [main_v0, main_v1, main_v2, main_v3, main_v4, main_v5, main_v6_0, main_v6_1, main_v6_2, main_v6_3, main_v7, main_v8]) :
    tcV (VE m) d b = m ((d : Thread nD τ).loc b) := by
  simp only [List.mem_cons, List.not_mem_nil, or_false, not_or] at h
  obtain ⟨h0, h1, h2, h3, h4, h5, h60, h61, h62, h63, h7, h8⟩ := h
  rw [VE_ne m d b h8, VD_ne m d b h7, VC_ne m d b h60 h61 h62 h63, VB_ne m d b h1 h2 h3 h4 h5, VA_ne m d b h0]

/-! ## The tokens' range -/

/-- `seq_in_vocab` all ones: every token is below 64. -/
theorem small_of_range (S : IVec S128x8192 32)
    (h : andi (cmpi .sge S (fun _ => 0#32)) (cmpi .slt S (fun _ => 64#32)) = fun _ => 1#1) : Small S := by
  intro j
  have hj := congrFun h j
  have : ∀ x : BitVec 32, ((IntOp.cmpi .sge x 0#32) &&& (IntOp.cmpi .slt x 64#32)) = 1#1 → x.toNat < 64 := by
    intro x hx
    simp only [IntOp.cmpi] at hx
    by_cases h1 : (0#32).sle x <;> by_cases h2 : x.slt 64#32 <;> simp [h1, h2] at hx
    have e1 := BitVec.sle_iff_toInt_le.1 h1
    have e2 := BitVec.slt_iff_toInt_lt.1 h2
    have e0 := BitVec.toInt_eq_toNat_cond x
    have e3 : (0#32).toInt = 0 := by decide
    have e4 : (64#32).toInt = 64 := by decide
    have := x.isLt
    split at e0 <;> omega
  exact this _ hj

/-- The kernel's run at its arguments and its counters. -/
theorem run_args [∀ e, Nonempty (Elt F e)] (ρ : Dev nD → PrngReg) (hS : SmallAll m) :
    θ_run (Cert.KernelIdeal.defs (F := F)) (Cert.KernelIdeal.threads (F := F)) ⟨m, fun _ => 0, ρ⟩ fun r => (∀ c : Dev nD,
      r.2.mem ((c.tc : Thread nD τ).loc main_v8) = tcV (VE m) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run Cert.KernelIdeal.defs _ _).mono (fun _ h => ⟨fun c =>
    ⟨h.1 c _ (mem_uc main_v8 rfl), (h.1 c _ (mem_uc main_arg0 rfl)).trans (VE_arg m c main_arg0 (by decide)),
      (h.1 c _ (mem_uc main_arg1 rfl)).trans (VE_arg m c main_arg1 (by decide)), (h.1 c _ (mem_uc main_arg2 rfl)).trans (VE_arg m c main_arg2 (by decide)),
      (h.1 c _ (mem_uc main_arg3 rfl)).trans (VE_arg m c main_arg3 (by decide)), (h.1 c _ (mem_uc main_arg4 rfl)).trans (VE_arg m c main_arg4 (by decide)),
      (h.1 c _ (mem_uc main_arg5 rfl)).trans (VE_arg m c main_arg5 (by decide)), (h.1 c _ (mem_uc main_arg6 rfl)).trans (VE_arg m c main_arg6 (by decide)),
      (h.1 c _ (mem_uc main_arg7 rfl)).trans (VE_arg m c main_arg7 (by decide)), (h.1 c _ (mem_uc main_arg8 rfl)).trans (VE_arg m c main_arg8 (by decide)),
      (h.1 c _ (mem_uc main_arg9 rfl)).trans (VE_arg m c main_arg9 (by decide)), (h.1 c _ (mem_uc main_arg10 rfl)).trans (VE_arg m c main_arg10 (by decide)),
      (h.1 c _ (mem_uc main_arg11 rfl)).trans (VE_arg m c main_arg11 (by decide))⟩, h.2⟩) (run_main m ρ hS)

/-- The same run, its arguments and its counters alone. -/
theorem run_frame [∀ e, Nonempty (Elt F e)] (ρ : Dev nD → PrngReg) (hS : SmallAll m) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run Cert.KernelIdeal.defs _ _).mono (fun _ h => ⟨fun c => (h.1 c).2, h.2⟩) (run_args m ρ hS)

/-! ## The two programs are one text -/

theorem body1_eq : @Cert.Kernel.cc1__pre_body Bits _ _ = @Cert.KernelIdeal.cc1__pre_body Bits _ _ := rfl
theorem body2_eq : @Cert.Kernel.cc2__post_body Bits _ _ = @Cert.KernelIdeal.cc2__post_body Bits _ _ := rfl
set_option maxHeartbeats 1000000 in
theorem defs0_eq : Cert.Kernel.defs₀ (F := Bits) = Cert.KernelIdeal.defs₀ (F := Bits) := by
  funext p ℓ a
  match p, ℓ, a with
  | .scVector c s, 0, _ => rfl
  | .tc, 1, (t, s) => rfl
  | .tc, 2, (t, s) => rfl
  | .tc, 0, _ => rfl
  | .scVector c s, 1, _ => rfl
  | .scVector c s, 2, _ => rfl
  | .scScalar c, 0, _ => rfl
  | .scScalar c, 1, _ => rfl
  | .scScalar c, 2, _ => rfl

theorem defs_eq : Cert.Kernel.defs (F := Bits) = Cert.KernelIdeal.defs (F := Bits) := by
  unfold Cert.Kernel.defs
  rw [defs0_eq]
  rfl

/-! ## The claims -/

/-- `Cert.quiescent_KernelIdeal`: the run at its arguments and its counters, from tokens in range. -/
theorem frame_kernelIdeal : Cert.quiescent_KernelIdeal := fun m ρ hp =>
  run_frame (F := Ideal) m ρ fun d => small_of_range _ (hp d)

/-- `Cert.quiescent_Kernel`: the same text at bit patterns. -/
theorem frame_kernel : Cert.quiescent_Kernel := fun m ρ hp => by
  have h := run_frame (F := Bits) m ρ fun d => small_of_range _ (hp d)
  rw [← defs_eq] at h
  exact h

/-- The tokens' range as `tokens_apart` says it. -/
theorem small_of_apart (m : (ℓ : Loc nD τ sig) → Buf (Elt Ideal) ℓ) (hp : Cert.Pre_KernelIdeal_tokens_apart m) : SmallAll m :=
  fun d => small_of_range _ (hp d).1

theorem frame_kernelIdeal_apart : Cert.quiescent_KernelIdeal_pre_tokens_apart := fun m ρ hp =>
  run_frame (F := Ideal) m ρ (small_of_apart m hp)

/-- `Cert.quiescent_ReferenceIdeal`: the reference's run at its arguments; it declares no semaphore. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_referenceIdeal_apart : Cert.quiescent_ReferenceIdeal_pre_tokens_apart := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- No float value was named: the two programs are one text. -/
theorem preserves : Cert.preserves_Kernel_KernelIdeal := trivial

end Cert.Proof

end
-- ==== Proof.Enc.lean ====
/-
  The encoding of one embedding row, as plain sums, and the first TensorCore call's four results read at a row and a
  column in its terms.
-/
module

public import proofs.«01_k».proof.Proof.Vals
public import Idealize.ShloMosaic.Lib.Pointwise

@[expose] public section

noncomputable section

namespace Cert.Proof

open Cert.KernelIdeal Cert.KernelIdeal.Gen

open Idealize.ShloMosaic

/-! ## One row encoded -/

/-- The number of columns, 64, as its word. -/
def cols : EReal := Ideal.ofBits .f32 0x42800000#32

/-- The variance's small addend, as its word. -/
def tiny : EReal := Ideal.ofBits .f32 0x3727C5AC#32

/-- A row and its two-layer network's output, added. -/
def mixed (w1 : Fin 64 → Fin 128 → EReal) (b1 : Fin 128 → EReal) (w2 : Fin 128 → Fin 64 → EReal) (b2 : Fin 64 → EReal) (r : Fin 64 → EReal) (d : Fin 64) : EReal :=
  r d + (∑ k, max (∑ j, r j * w1 j k + b1 k) 0 * w2 k d + b2 d)

/-- A row's mean. -/
def mean (x : Fin 64 → EReal) : EReal := Ideal.div (∑ d, x d) cols

/-- A row's variance and the small addend. -/
def spread (x : Fin 64 → EReal) : EReal := Ideal.div (∑ k, (x k - mean x) * (x k - mean x)) cols + tiny

/-- A row normalised, scaled and shifted. -/
def normed (g bt : Fin 64 → EReal) (x : Fin 64 → EReal) (d : Fin 64) : EReal :=
  Ideal.div (x d - mean x) (Ideal.sqrt (spread x)) * g d + bt d

/-- The encoding of an embedding row. -/
def enc (w1 : Fin 64 → Fin 128 → EReal) (b1 : Fin 128 → EReal) (w2 : Fin 128 → Fin 64 → EReal) (b2 g bt : Fin 64 → EReal) (r : Fin 64 → EReal) : Fin 64 → EReal :=
  normed g bt (mixed w1 b1 w2 b2 r)

/-- The sum of a row's squares. -/
def sq (h : Fin 64 → EReal) : EReal := ∑ d, h d * h d

/-! ## The first TensorCore call -/

section Call1
variable (e : FVec Ideal S64x64 .f32) (w1 : FVec Ideal S64x128 .f32) (b1 : FVec Ideal S1x128 .f32) (w2 : FVec Ideal S128x64 .f32) (b2 g bt : FVec Ideal S1x64 .f32)
  (tb : IVec S128x128 32) (wq : FVec Ideal S64x64 .f32) (bq : FVec Ideal S1x64 .f32)

/-- Token `v`'s encoding, of the arrays the call reads. -/
abbrev encK (v : Fin 64) : Fin 64 → EReal :=
  enc (fun j k => w1 (ix2 j k)) (fun k => b1 (ix2 0 k)) (fun k d => w2 (ix2 k d)) (fun d => b2 (ix2 0 d)) (fun d => g (ix2 0 d)) (fun d => bt (ix2 0 d)) (fun j => e (ix2 v j))

theorem hidden_at (v d : Fin 64) : hidden e w1 b1 w2 b2 g bt (ix2 v d) = encK e w1 b1 w2 b2 g bt v d := by
  pointwise [hidden, k1_pay3, k1_pay2]
  rfl

/-- A condition as a bit, widened and converted, is one or zero. -/
theorem bit_val (p : Prop) [Decidable p] : (FloatOps.sitofp .f32 (BitVec.setWidth 32 (BitVec.ofBool (decide p))) : Ideal .f32) = if p then 1 else 0 := by
  by_cases h : p
  · simp only [h, decide_true, if_true]
    show ((((BitVec.ofBool true).setWidth 32).toInt : ℝ) : EReal) = 1
    have : ((BitVec.ofBool true).setWidth 32).toInt = 1 := by decide
    rw [this]; simp
  · simp only [h, decide_false, if_false]
    show ((((BitVec.ofBool false).setWidth 32).toInt : ℝ) : EReal) = 0
    have : ((BitVec.ofBool false).setWidth 32).toInt = 0 := by decide
    rw [this]; simp

theorem eq_val (x y : BitVec 32) : (FloatOps.sitofp .f32 (BitVec.setWidth 32 (IntOp.cmpi .eq x y)) : Ideal .f32) = if x = y then 1 else 0 := by
  have : IntOp.cmpi .eq x y = BitVec.ofBool (decide (x = y)) := by
    simp only [IntOp.cmpi]
    by_cases h : x = y
    · simp [h]
    · have h' : (x == y) = false := beq_eq_false_iff_ne.mpr h
      rw [h', decide_eq_false h]
  rw [this, bit_val]

theorem larger_at (u v : Fin 64) :
    larger e w1 b1 w2 b2 g bt (ix2 u v) = if sq (encK e w1 b1 w2 b2 g bt v) < sq (encK e w1 b1 w2 b2 g bt u) then 1 else 0 := by
  have h := hidden_at e w1 b1 w2 b2 g bt
  unfold hidden at h
  pointwise [larger, k1_pay5, k1_pay4]
  simp only [h]
  exact bit_val _

theorem colv_at (k : ℕ) (hk : k < 128) (b : Fin 128) : colv tb k hk (ix2 b 0) = tb (ix2 b ⟨k, hk⟩) := by
  show tb (ValueIdx.ix2 _ _) = _
  rw [ix2_eq_valueIdx, ix2_eq_valueIdx]

theorem tails_at (b : Fin 128) (v : Fin 64) : (tails tb : FVec Ideal S128x64 .f32) (ix2 b v)
    = (if tb (ix2 b 125) = BitVec.ofNat 32 v.val then 1 else 0) + (if tb (ix2 b 126) = BitVec.ofNat 32 v.val then 1 else 0)
      + (if tb (ix2 b 127) = BitVec.ofNat 32 v.val then 1 else 0) := by
  pointwise [tails, k1_pay7, k1_pay6]
  rw [eq_val, eq_val, eq_val, colv_at, colv_at, colv_at]
  rfl

/-- The scores, once the row's last token is known to be `t`. -/
theorem scores_at (b : Fin 128) (v t : Fin 64) (ht : tb (ix2 b 127) = BitVec.ofNat 32 t.val) : scores tb e w1 b1 w2 b2 g bt wq bq (ix2 b v)
    = (∑ d, (∑ j, encK e w1 b1 w2 b2 g bt t j * wq (ix2 j d) + bq (ix2 0 d)) * encK e w1 b1 w2 b2 g bt v d) * Ideal.ofBits .f32 0x3E000000#32 := by
  have h := hidden_at e w1 b1 w2 b2 g bt
  unfold hidden at h
  have hone : ∀ j, ∑ x : Fin 64, (FloatOps.sitofp .f32 (BitVec.setWidth 32 (IntOp.cmpi .eq (tb (ix2 b 127)) (BitVec.ofNat 32 x.val))) : Ideal .f32) * encK e w1 b1 w2 b2 g bt x j
      = encK e w1 b1 w2 b2 g bt t j := by
    intro j
    rw [Finset.sum_eq_single t]
    · rw [eq_val, if_pos ht, one_mul]
    · intro x _ hx
      rw [eq_val, if_neg, zero_mul]
      intro h'
      have := congrArg BitVec.toNat (ht.symm.trans h')
      have h1 := x.isLt; have h2 := t.isLt
      simp at this
      exact hx (Fin.ext (by omega))
    · intro h; exact absurd (Finset.mem_univ _) h
  pointwise [scores, k1_pay1, k1_pay4, k1_pay6, k1_pay8]
  simp only [h]
  have hc : colv tb 127 (by decide) (ix2 b 0) = tb (ix2 b 127) := colv_at tb 127 (by decide) b
  simp only [hc, hone]

end Call1

/-! ## The second TensorCore call -/

section Call2
variable (raw : IVec S128x1040 32) (G : FVec Ideal S64x64 .f32) (lg oh : FVec Ideal S128x64 .f32) (h wo : FVec Ideal S64x64 .f32) (bo : FVec Ideal S1x64 .f32)

/-- The sixteen lanes' counters of token `v` in row `b`, added as words. -/
def lanes (b : Fin 128) (v : Fin 64) : BitVec 32 :=
  IntOp.addi (IntOp.addi (IntOp.addi (IntOp.addi (IntOp.addi (IntOp.addi (IntOp.addi (IntOp.addi (IntOp.addi (IntOp.addi (IntOp.addi (IntOp.addi (IntOp.addi (IntOp.addi (IntOp.addi (raw (ix2 b ⟨v.val, by have := v.isLt; omega⟩))
    (raw (ix2 b ⟨65 + v.val, by have := v.isLt; omega⟩)))
    (raw (ix2 b ⟨130 + v.val, by have := v.isLt; omega⟩)))
    (raw (ix2 b ⟨195 + v.val, by have := v.isLt; omega⟩)))
    (raw (ix2 b ⟨260 + v.val, by have := v.isLt; omega⟩)))
    (raw (ix2 b ⟨325 + v.val, by have := v.isLt; omega⟩)))
    (raw (ix2 b ⟨390 + v.val, by have := v.isLt; omega⟩)))
    (raw (ix2 b ⟨455 + v.val, by have := v.isLt; omega⟩)))
    (raw (ix2 b ⟨520 + v.val, by have := v.isLt; omega⟩)))
    (raw (ix2 b ⟨585 + v.val, by have := v.isLt; omega⟩)))
    (raw (ix2 b ⟨650 + v.val, by have := v.isLt; omega⟩)))
    (raw (ix2 b ⟨715 + v.val, by have := v.isLt; omega⟩)))
    (raw (ix2 b ⟨780 + v.val, by have := v.isLt; omega⟩)))
    (raw (ix2 b ⟨845 + v.val, by have := v.isLt; omega⟩)))
    (raw (ix2 b ⟨910 + v.val, by have := v.isLt; omega⟩)))
    (raw (ix2 b ⟨975 + v.val, by have := v.isLt; omega⟩))

/-- How often token `v` occurs among the row's allowed positions, as the second call computes it. -/
def tally (b : Fin 128) (v : Fin 64) : EReal := (FloatOps.sitofp .f32 (lanes raw b v) : Ideal .f32) - oh (ix2 b v)

/-- How many of the six places token `v` takes. -/
theorem pay2_at (b : Fin 128) (v : Fin 64) :
   k2_pay2 (F := Ideal) raw oh G (ix2 b v)
    = min (max (Ideal.ofBits .f32 0x40C00000#32 - ∑ u, tally raw oh b u * G (ix2 u v)) 0) (tally raw oh b v) := by
  pointwise [k2_pay2]
  rfl

/-- The score a token enters the softmax with: its own when it takes a place, a very low one when not. -/
def entered (M L : Fin 64 → EReal) (v : Fin 64) : EReal := if 0 < M v then L v else Ideal.ofBits .f32 0xF149F2CA#32

/-- The weight of a token before normalisation. -/
def weight (M L : Fin 64 → EReal) (v : Fin 64) : EReal :=
  M v * Ideal.exp (entered M L v - Finset.fold max (Ideal.ofBits .f32 0xFF800000#32) (entered M L) Finset.univ)

theorem outs_at (b : Fin 128) (o : Fin 64) : outs raw G lg oh h wo bo (ix2 b o)
    = (∑ d, (∑ v, Ideal.div (weight (fun v => k2_pay2 (F := Ideal) raw oh G (ix2 b v)) (fun v => lg (ix2 b v)) v)
        (∑ u, weight (fun v => k2_pay2 (F := Ideal) raw oh G (ix2 b v)) (fun v => lg (ix2 b v)) u) * h (ix2 v d)) * wo (ix2 d o)) + bo (ix2 0 o) := by
  pointwise [outs, k2_pay1, k2_pay3]
  rfl

end Call2

end Cert.Proof

end
-- ==== Proof.RefVal.lean ====
/-
  The reference's two gathers and its selection of the six greatest, read at an index.
-/
module

public import proofs.«01_k».proof.Proof.Enc
public import proofs.«01_k».proof.Proof.Gen.ReferenceIdeal.Run
public import Idealize.ShloMosaic.Lib.SortFacts

@[expose] public section

noncomputable section

namespace Cert.Proof.Ref

open Cert.ReferenceIdeal Cert.ReferenceIdeal.Gen Cert.ReferenceIdeal.Value Idealize.ShloMosaic Idealize.ShloMosaic.StableHlo Idealize.SL.Sem

/-! ## Gathers and the selection, read at an index -/

theorem ofNat_toInt {n : ℕ} (h : n < 2 ^ 31) : (BitVec.ofNat 32 n).toInt = n := by
  have e := BitVec.toInt_eq_toNat_cond (BitVec.ofNat 32 n)
  have e2 : (BitVec.ofNat 32 n).toNat = n := by simp; omega
  rw [e2] at e
  rw [e, if_pos (by omega)]

/-- The embedding's gather at `(b, l, d)` is row `idx[b, l, 0]` of the table. -/
theorem take_at (x : FVec Ideal S64x64 .f32) (idx : IVec S128x8192x1 32) (b : Fin 128) (l : Fin 8192) (d : Fin 64) (n : Fin 64)
    (hn : idx (ix3 b l 0) = BitVec.ofNat 32 n.val) :
    Host.gather gather_S64x64_S128x8192x1_S128x8192x64_2_0_n_n_0_2_164 x idx (ix3 b l d) = x (ix2 n d) := by
  unfold Host.gather
  congr 1
  funext a
  refine Fin.ext ?_
  set D := gather_S64x64_S128x8192x1_S128x8192x64_2_0_n_n_0_2_164 with hD
  show D.start (ix3 b l d) idx a + D.batchCoord (ix3 b l d) a + D.offCoord (ix3 b l d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix3 b l d) ⟨List.idxOf (0 : Fin 2) D.startIndexMap,
        List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi, hn, ofNat_toInt (by have := n.isLt; omega)]
    show min ((n.val : ℤ).toNat) (64 - 1) = n.val
    have := n.isLt
    omega
  · rw [GatherDims.batchCoord_eq_zero _ _ _ (List.not_mem_nil)]
    unfold GatherDims.start
    rw [dif_neg (show (1 : Fin 2) ∉ D.startIndexMap from by rw [hD]; decide)]
    rw [Nat.zero_add]
    rfl

/-- The gather of the chosen positions at `(b, s, d)` is position `idx[b, s, 0]` of row `b`. -/
theorem pick_at (x : FVec Ideal S128x8189x64 .f32) (idx : IVec S128x6x1 32) (b : Fin 128) (s : Fin 6) (d : Fin 64) (n : Fin 8189)
    (hn : idx (ix3 b s 0) = BitVec.ofNat 32 n.val) :
    Host.gather gather_S128x8189x64_S128x6x1_S128x6x64_2_1_0_0_1_2_1164 x idx (ix3 b s d) = x (ix3 b n d) := by
  unfold Host.gather
  congr 1
  funext a
  refine Fin.ext ?_
  set D := gather_S128x8189x64_S128x6x1_S128x6x64_2_1_0_0_1_2_1164 with hD
  show D.start (ix3 b s d) idx a + D.batchCoord (ix3 b s d) a + D.offCoord (ix3 b s d) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ D.operandBatchingDims from List.mem_singleton.mpr rfl)]
    rfl
  · rw [GatherDims.batchCoord_eq_zero _ _ _ (by rw [hD]; decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ D.startIndexMap from List.mem_singleton.mpr rfl)]
    have hsi : D.siIdx (ix3 b s d) ⟨List.idxOf (1 : Fin 3) D.startIndexMap,
        List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi, hn, ofNat_toInt (by have := n.isLt; omega)]
    show min ((n.val : ℤ).toNat) (8189 - 1) = n.val
    have := n.isLt
    omega
  · rw [GatherDims.batchCoord_eq_zero _ _ _ (by rw [hD]; decide)]
    unfold GatherDims.start
    rw [dif_neg (show (2 : Fin 3) ∉ D.startIndexMap from by rw [hD]; decide)]
    rw [Nat.zero_add]
    rfl

/-- The order the selection sorts a row's positions by: the greater value first. -/
def first (x : FVec Ideal S128x8189 .f32) (b : Fin 128) (k k' : Fin 8189) : Bool := decide (x (ix2 b k') < x (ix2 b k))

/-- The position the selection puts at place `s` of row `b`. -/
def chosen (x : FVec Ideal S128x8189 .f32) (b : Fin 128) (s : Fin 6) : Fin 8189 :=
  sortedFrom (first x b) ⟨s.val, by have := s.isLt; omega⟩

theorem topK_at (x : FVec Ideal S128x8189 .f32) (b : Fin 128) (s : Fin 6) :
    (Host.topK S128x6 1 (FloatOps.cmpfTotal .gt) x sliceFits_S128x8189_S128x6).2 (ix2 b s) = BitVec.ofNat 32 (chosen x b s).val := by
  have hB : first x b = fun k k' => (FloatOps.cmpfTotal (F := Ideal) .gt (x (ix2 b k)) (x (ix2 b k')) == 1#1) := by
    funext k k'
    show decide (x (ix2 b k') < x (ix2 b k)) = (BitVec.ofBool (decide (x (ix2 b k') < x (ix2 b k))) == 1#1)
    cases decide (x (ix2 b k') < x (ix2 b k)) <;> rfl
  have hj : ∀ (j : S128x8189.Idx) (k : Fin 8189), j 0 = b → j.along (1 : Fin 2) k = ix2 b k := by
    intro j k h
    funext a
    match a with
    | ⟨0, _⟩ => exact h
    | ⟨1, _⟩ => rfl
  unfold chosen
  rw [hB]
  have hb : ∀ j : S128x8189.Idx, j 0 = b → j 1 = (⟨s.val, by have := s.isLt; omega⟩ : Fin 8189) →
      (Host.sort2 S128x8189 1 (fun l r => FloatOps.cmpfTotal (F := Ideal) .gt l.1 r.1) x
        (fun i => if hd : 1 < S128x8189.rank then iotaInDim S128x8189 32 ⟨1, hd⟩ i else 0#32)).2 j
      = BitVec.ofNat 32 (sortedFrom (fun k k' => FloatOps.cmpfTotal (F := Ideal) .gt (x (ix2 b k)) (x (ix2 b k')) == 1#1)
          (⟨s.val, by have := s.isLt; omega⟩ : Fin 8189)).val := by
    intro j h0 h1
    unfold Host.sort2
    rw [dif_pos (show 1 < S128x8189.rank from by decide)]
    have hio : ∀ i : S128x8189.Idx, (if hd : 1 < S128x8189.rank then iotaInDim S128x8189 32 ⟨1, hd⟩ i else 0#32) = BitVec.ofNat 32 (i 1).val := by
      intro i
      rw [dif_pos (show 1 < S128x8189.rank from by decide)]
      rfl
    simp only [hio]
    have key : ∀ (hd : 1 < S128x8189.rank), (BitVec.ofNat 32 ((j.along ⟨1, hd⟩ (sortedFrom (n := 8189)
        (fun k k' => FloatOps.cmpfTotal (F := Ideal) .gt (x (j.along ⟨1, hd⟩ k)) (x (j.along ⟨1, hd⟩ k')) == 1#1) (j ⟨1, hd⟩))) 1).val)
        = BitVec.ofNat 32 (sortedFrom (fun k k' => FloatOps.cmpfTotal (F := Ideal) .gt (x (ix2 b k)) (x (ix2 b k')) == 1#1)
          (⟨s.val, by have := s.isLt; omega⟩ : Fin 8189)).val := by
      intro hd
      have e1 : (fun k k' : Fin 8189 => FloatOps.cmpfTotal (F := Ideal) .gt (x (j.along ⟨1, hd⟩ k)) (x (j.along ⟨1, hd⟩ k')) == 1#1)
          = fun k k' => FloatOps.cmpfTotal (F := Ideal) .gt (x (ix2 b k)) (x (ix2 b k')) == 1#1 := by
        funext k k'
        rw [show j.along ⟨1, hd⟩ k = ix2 b k from hj j k h0, show j.along ⟨1, hd⟩ k' = ix2 b k' from hj j k' h0]
      have gen : ∀ (B' B : Fin 8189 → Fin 8189 → Bool) (q' q : Fin 8189), B' = B → q' = q →
          BitVec.ofNat 32 ((j.along ⟨1, hd⟩ (sortedFrom B' q')) 1).val = BitVec.ofNat 32 (sortedFrom B q).val := by
        rintro B' B q' q rfl rfl
        rw [show j.along ⟨1, hd⟩ (sortedFrom B' q') = ix2 b (sortedFrom B' q') from hj j _ h0]
        rfl
      exact gen _ _ _ _ e1 h1
    exact key (by decide)
  exact hb _ (Fin.ext (by show 0 + b.val = b.val; omega)) (Fin.ext (by show 0 + s.val = s.val; omega))

theorem chosen_injective (x : FVec Ideal S128x8189 .f32) (b : Fin 128) : Function.Injective (chosen x b) := by
  intro s s' h
  have := congrArg Fin.val (sortedFrom_injective _ h)
  exact Fin.ext this

/-- A position that is not chosen has a value no greater than any chosen one. -/
theorem chosen_top (x : FVec Ideal S128x8189 .f32) (b : Fin 128) (l : Fin 8189) (hl : ∀ s, chosen x b s ≠ l) (s : Fin 6) :
    x (ix2 b l) ≤ x (ix2 b (chosen x b s)) := by
  obtain ⟨k, rfl⟩ := sortedFrom_surjective (first x b) l
  have hk : 6 ≤ k.val := by
    by_contra h
    exact hl ⟨k.val, by omega⟩ rfl
  have h := sortedFrom_noInversion (first x b) (first x b)
    (fun a c h => by simp only [first, decide_eq_true_eq, decide_eq_false_iff_not] at h ⊢; exact not_lt.mpr h.le)
    (fun _ _ h => h)
    (fun a c e h h' => by simp only [first, decide_eq_false_iff_not, not_lt] at h h' ⊢; exact h.trans h')
    ⟨s.val, by have := s.isLt; omega⟩ k (by rw [Fin.lt_def]; have := s.isLt; show s.val < k.val; omega)
  simp only [first, decide_eq_false_iff_not, not_lt] at h
  exact h

end Cert.Proof.Ref

end
-- ==== Proof.RefRead.lean ====
/-
  The reference's result read at a row and a column: the softmax over the six chosen positions.
-/
module

public import proofs.«01_k».proof.Proof.RefVal
public import proofs.«01_k».proof.Proof.Gen.ReferenceIdeal.Run

@[expose] public section

noncomputable section

namespace Cert.Proof.Ref

open Cert.ReferenceIdeal Cert.ReferenceIdeal.Gen Cert.ReferenceIdeal.Value Idealize.ShloMosaic Idealize.ShloMosaic.StableHlo Idealize.SL.Sem

/-! ## The reference's terms, read at an index -/

theorem sel_zero {α : Type} (x y : α) : Scalar.select 0#1 x y = y := rfl

theorem sel_one {α : Type} (x y : α) : Scalar.select 1#1 x y = x := rfl

theorem v11_gen (x : FVec Ideal S128x8192x64 .f32) (w1 : FVec Ideal S64x128 .f32) (b1 : FVec Ideal S128 .f32) (w2 : FVec Ideal S128x64 .f32) (b2 : FVec Ideal S64 .f32)
    (b : Fin 128) (l : Fin 8192) (d : Fin 64) :
    (addf x (addf (Host.dotGeneral dot_S128x8192x128_S128x64_S128x8192x64_2_0_01_1_n_n none (maximumf (addf (Host.dotGeneral dot_S128x8192x64_S64x128_S128x8192x128_2_0_01_1_n_n none x w1) (broadcastInDim S128x8192x128 ![0, 1, 2] bcast_S1x1x128_S128x8192x128_0_1_2 (broadcastInDim S1x1x128 ![2] bcast_S128_S1x1x128_2 b1))) (broadcastInDim S128x8192x128 ![] bcast_S_S128x8192x128 (constant S_ .f32 0x00000000#32))) w2) (broadcastInDim S128x8192x64 ![0, 1, 2] bcast_S1x1x64_S128x8192x64_0_1_2 (broadcastInDim S1x1x64 ![2] bcast_S64_S1x1x64_2 b2))) : FVec Ideal S128x8192x64 .f32) (ix3 b l d)
    = mixed (fun j k => w1 (ix2 j k)) (fun k => b1 (ix1 k)) (fun k d => w2 (ix2 k d)) (fun d => b2 (ix1 d)) (fun j => x (ix3 b l j)) d := by
  pointwise
  rfl
section
variable (V : Valuation τ sig (Elt Ideal))

/-- The token table. -/
abbrev aSeq : IVec S128x8192 32 := V (Proc.devRef .tc main_arg0)
/-- The embedding. -/
abbrev aE : FVec Ideal S64x64 .f32 := V (Proc.devRef .tc main_arg1)
/-- The first layer's weights. -/
abbrev aW1 : FVec Ideal S64x128 .f32 := V (Proc.devRef .tc main_arg2)
/-- The first layer's shift. -/
abbrev aB1 : FVec Ideal S128 .f32 := V (Proc.devRef .tc main_arg3)
/-- The second layer's weights. -/
abbrev aW2 : FVec Ideal S128x64 .f32 := V (Proc.devRef .tc main_arg4)
/-- The second layer's shift. -/
abbrev aB2 : FVec Ideal S64 .f32 := V (Proc.devRef .tc main_arg5)
/-- The normalisation's scale. -/
abbrev aG : FVec Ideal S64 .f32 := V (Proc.devRef .tc main_arg6)
/-- The normalisation's shift. -/
abbrev aBt : FVec Ideal S64 .f32 := V (Proc.devRef .tc main_arg7)
/-- The query's weights. -/
abbrev aWq : FVec Ideal S64x64 .f32 := V (Proc.devRef .tc main_arg8)
/-- The query's shift. -/
abbrev aBq : FVec Ideal S64 .f32 := V (Proc.devRef .tc main_arg9)
/-- The output's weights. -/
abbrev aWo : FVec Ideal S64x64 .f32 := V (Proc.devRef .tc main_arg10)
/-- The output's shift. -/
abbrev aBo : FVec Ideal S64 .f32 := V (Proc.devRef .tc main_arg11)

/-- Token `v`'s encoding, of the reference's arguments. -/
def hR (v : Fin 64) : Fin 64 → EReal :=
  enc (fun j k => aW1 V (ix2 j k)) (fun k => aB1 V (ix1 k)) (fun k d => aW2 V (ix2 k d)) (fun d => aB2 V (ix1 d)) (fun d => aG V (ix1 d))
    (fun d => aBt V (ix1 d)) (fun j => aE V (ix2 v j))

/-- The query of a row whose last token is `t`. -/
def qR (t d : Fin 64) : EReal := ∑ j, hR V t j * aWq V (ix2 j d) + aBq V (ix1 d)

variable (tk : Fin 128 → Fin 8192 → Fin 64) (htk : ∀ b l, aSeq V (ix2 b l) = BitVec.ofNat 32 (tk b l).val)

include htk in
theorem start_at (b : Fin 128) (l : Fin 8192) : (res_main_call0_v5 V : IVec S128x8192x1 32) (ix3 b l 0) = BitVec.ofNat 32 (tk b l).val := by
  pointwise [res_main_call0_v5]
  show Scalar.select (IntOp.cmpi .slt (aSeq V (ix2 b l)) 0#32) (IntOp.addi (aSeq V (ix2 b l)) 64#32) (aSeq V (ix2 b l)) = _
  rw [htk]
  have : IntOp.cmpi .slt (BitVec.ofNat 32 (tk b l).val) 0#32 = 0#1 := by
    have := (tk b l).isLt
    simp only [IntOp.cmpi, BitVec.slt, BitVec.toInt_zero, ofNat_toInt (show (tk b l).val < 2 ^ 31 by omega)]
    rw [decide_eq_false (by omega)]
    rfl
  rw [this]
  exact sel_zero _ _

/-- A conjunction over a set of bits that are all one. -/
theorem fold_and {ι : Type} [DecidableEq ι] (s : Finset ι) (f : ι → BitVec 1) (h : ∀ i, f i = 1#1) : Finset.fold IntOp.andi 1#1 f s = 1#1 := by
  induction s using Finset.induction_on with
  | empty => rfl
  | insert a s ha ih => rw [Finset.fold_insert ha, ih, h]; rfl

theorem idx3_eq {n m : ℕ} (i : (⟨3, ![n, m, 1]⟩ : Shape).Idx) : ∃ (a : Fin n) (b : Fin m), i = ix3 a b 0 := by
  refine ⟨i 0, i 1, ?_⟩
  funext a
  match a with
  | ⟨0, _⟩ => rfl
  | ⟨1, _⟩ => rfl
  | ⟨2, _⟩ => exact Fin.ext (by have := (i 2).isLt; show (i 2).val = 0; change (i 2).val < 1 at this; omega)

theorem in_range {n k : ℕ} (h : n ≤ k) (hk : k < 2 ^ 31) :
    IntOp.andi (IntOp.cmpi .sge (BitVec.ofNat 32 n) 0#32) (IntOp.cmpi .sle (BitVec.ofNat 32 n) (BitVec.ofNat 32 k)) = 1#1 := by
  have h1 := ofNat_toInt (n := n) (by omega)
  have h2 := ofNat_toInt (n := k) (by omega)
  simp only [IntOp.cmpi, BitVec.sle, h1, h2]
  simp [h]
  rfl

include htk in
theorem v0_at (b : Fin 128) (l : Fin 8192) (d : Fin 64) : (res_main_v0 V : FVec Ideal S128x8192x64 .f32) (ix3 b l d) = aE V (ix2 (tk b l) d) := by
  pointwise [res_main_v0]
  rw [fold_and]
  · refine (sel_one _ _).trans ?_
    exact take_at _ _ _ _ _ _ (start_at V tk htk b l)
  · intro i
    obtain ⟨b', l', rfl⟩ := idx3_eq (n := 128) (m := 8192) i
    have e := start_at V tk htk b' l'
    rw [e]
    exact in_range (by have := (tk b' l').isLt; omega) (by decide)

include htk in
theorem v11_at (b : Fin 128) (l : Fin 8192) (d : Fin 64) : (res_main_v11 V : FVec Ideal S128x8192x64 .f32) (ix3 b l d)
    = mixed (fun j k => aW1 V (ix2 j k)) (fun k => aB1 V (ix1 k)) (fun k d => aW2 V (ix2 k d)) (fun d => aB2 V (ix1 d)) (fun j => aE V (ix2 (tk b l) j)) d := by
  refine (v11_gen (res_main_v0 V) (aW1 V) (aB1 V) (aW2 V) (aB2 V) b l d).trans ?_
  exact congrArg (fun r => mixed (fun j k => aW1 V (ix2 j k)) (fun k => aB1 V (ix1 k)) (fun k d => aW2 V (ix2 k d)) (fun d => aB2 V (ix1 d)) r d)
    (funext fun j => v0_at V tk htk b l j)

include htk in
theorem v35_at (b : Fin 128) (l : Fin 8192) (d : Fin 64) : (res_main_v35 V : FVec Ideal S128x8192x64 .f32) (ix3 b l d) = hR V (tk b l) d := by
  have h := v11_at V tk htk
  pointwise [res_main_v35, res_main_v17, res_main_v15]
  simp only [h]
  rfl

include htk in
theorem v39_at (b : Fin 128) (l : Fin 8189) : (res_main_v39 V : FVec Ideal S128x8189 .f32) (ix2 b l)
    = Ideal.sqrt (sq (hR V (tk b ⟨l.val, by have := l.isLt; omega⟩))) := by
  have h := v35_at V tk htk
  pointwise [res_main_v39, res_main_v36]
  simp only [h]
  rfl

/-- The token at the position that row `b` puts at place `s`. -/
def slot (b : Fin 128) (s : Fin 6) : Fin 64 := tk b ⟨(chosen (res_main_v39 V) b s).val, by have := (chosen (res_main_v39 V) b s).isLt; omega⟩

theorem v40_at (b : Fin 128) (s : Fin 6) : (res_main_v40 V : IVec S128x6x1 32) (ix3 b s 0) = BitVec.ofNat 32 (chosen (res_main_v39 V) b s).val := by
  pointwise [res_main_v40]
  exact topK_at _ b s

theorem wrap_at (b : Fin 128) (s : Fin 6) : Scalar.select (IntOp.cmpi .slt ((res_main_v40 V : IVec S128x6x1 32) (ix3 b s 0)) 0#32)
    (IntOp.addi ((res_main_v40 V : IVec S128x6x1 32) (ix3 b s 0)) 8189#32) ((res_main_v40 V : IVec S128x6x1 32) (ix3 b s 0))
    = BitVec.ofNat 32 (chosen (res_main_v39 V) b s).val := by
  rw [v40_at]
  have : IntOp.cmpi .slt (BitVec.ofNat 32 (chosen (res_main_v39 V) b s).val) 0#32 = 0#1 := by
    have := (chosen (res_main_v39 V) b s).isLt
    simp only [IntOp.cmpi, BitVec.slt, BitVec.toInt_zero, ofNat_toInt (show (chosen (res_main_v39 V) b s).val < 2 ^ 31 by omega)]
    rw [decide_eq_false (by omega)]
    rfl
  rw [this]
  exact sel_zero _ _

theorem call1_at (b : Fin 128) (s : Fin 6) : (res_main_call1_v4 V : IVec S128x6x1 32) (ix3 b s 0) = BitVec.ofNat 32 (chosen (res_main_v39 V) b s).val := by
  pointwise [res_main_call1_v4]
  exact wrap_at V b s

include htk in
theorem v41_at (b : Fin 128) (s : Fin 6) (d : Fin 64) : (res_main_v41 V : FVec Ideal S128x6x64 .f32) (ix3 b s d) = hR V (slot V tk b s) d := by
  pointwise [res_main_v41]
  rw [fold_and]
  · refine (sel_one _ _).trans ?_
    refine (pick_at (res_main_v36 V) (res_main_call1_v4 V) b s d (chosen (res_main_v39 V) b s) (call1_at V b s)).trans ?_
    have h := v35_at V tk htk
    pointwise [res_main_v36]
    exact h _ _ _
  · intro i
    obtain ⟨b', s', rfl⟩ := idx3_eq (n := 128) (m := 6) i
    have e := call1_at V b' s'
    rw [e]
    exact in_range (by have := (chosen (res_main_v39 V) b' s').isLt; omega) (by decide)

/-- The score of token `v` in a row whose last token is `t`. -/
def scoreR (t v : Fin 64) : EReal := Ideal.div (∑ d, qR V t d * hR V v d) (Ideal.ofBits .f32 0x41000000#32)

include htk in
theorem v51_at (b : Fin 128) (s : Fin 6) : (res_main_v51 V : FVec Ideal S128x1x6 .f32) (ix3 b 0 s) = scoreR V (tk b 8191) (slot V tk b s) := by
  have h := v35_at V tk htk
  have h' := v41_at V tk htk
  pointwise [res_main_v51]
  simp only [h, h']
  rfl

/-- The softmax's shift in row `b`. -/
def topR (b : Fin 128) : EReal :=
  max (Ideal.ofBits .f32 0xFF800000#32) (Finset.fold max (Ideal.ofBits .f32 0xFF800000#32) (res_main_v51 V : FVec Ideal S128x1x6 .f32)
    (Finset.univ.filter fun i => reducesTo_S128x1x6_S128x1_d2.drop i = ix2 b 0))

include htk in
theorem v58_at (b : Fin 128) (s : Fin 6) : (res_main_v58 V : FVec Ideal S128x1x6 .f32) (ix3 b 0 s)
    = Ideal.exp (scoreR V (tk b 8191) (slot V tk b s) - topR V b) := by
  have h := v51_at V tk htk
  pointwise [res_main_v58]
  rw [h]
  rfl

include htk in
theorem out_at (b : Fin 128) (o : Fin 64) :
    (addf (Host.dotGeneral (φ₁ := .f32) (φ₂ := .f32) dot_S128x64_S64x64_S128x64_1_0_0_1_n_n none (shapeCast _ (Host.dotGeneral (φ₁ := .f32) (φ₂ := .f32) dot_S128x1x6_S128x6x64_S128x1x64_2_1_1_2_0_0 none (Host.divf (res_main_v58 V) (broadcastInDim S128x1x6 ![0, 1, 2] bcast_S128x1x1_S128x1x6_0_1_2 (broadcastInDim S128x1x1 ![0, 1] bcast_S128x1_S128x1x1_0_1 (Host.reduceAdd (res_main_v58 V) (constant S_ .f32 0x00000000#32) reducesTo_S128x1x6_S128x1_d2 h_S_)))) (res_main_v41 V)) shapeCasts_S128x1x64_S128x64) (aWo V)) (broadcastInDim S128x64 ![0, 1] bcast_S1x64_S128x64_0_1 (broadcastInDim S1x64 ![1] bcast_S64_S1x64_1 (aBo V))) : FVec Ideal S128x64 .f32) (ix2 b o)
    = (∑ d, (∑ s, Ideal.div (Ideal.exp (scoreR V (tk b 8191) (slot V tk b s) - topR V b))
        (∑ s', Ideal.exp (scoreR V (tk b 8191) (slot V tk b s') - topR V b)) * hR V (slot V tk b s) d) * aWo V (ix2 d o)) + aBo V (ix1 o) := by
  have h := v58_at V tk htk
  have h' := v41_at V tk htk
  pointwise
  simp only [h, h']

end

end Cert.Proof.Ref
end
-- ==== Proof.Count.lean ====
/-
  The sixteen lanes' counters added up and the last three tokens taken off: how often a token occurs among a row's first
  8189 places.
-/
module

public import proofs.«01_k».proof.Proof.Hist
public import proofs.«01_k».proof.Proof.Enc
public import proofs.«01_k».proof.Proof.RegA

@[expose] public section

noncomputable section

namespace Cert.Proof

open Idealize.ShloMosaic
open Cert.KernelIdeal (S128x8192 S128x1040 S128x128 S128x64)

/-- Row `b`'s token at place `l`. -/
def tok (S : IVec S128x8192 32) (hS : Small S) (b : Fin 128) (l : Fin 8192) : Fin 64 := ⟨(S (ix2 b l)).toNat, hS _⟩

theorem tok_word (S : IVec S128x8192 32) (hS : Small S) (b : Fin 128) (l : Fin 8192) : S (ix2 b l) = BitVec.ofNat 32 (tok S hS b l).val := by
  show _ = BitVec.ofNat 32 (S (ix2 b l)).toNat
  simp

theorem srow_tok (S : IVec S128x8192 32) (hS : Small S) (b : Fin 128) (l : Fin 8192) : srow S b.val l.val = (tok S hS b l).val := by
  rw [srow_of_lt S b.isLt l.isLt]
  show _ = (S (ix2 b l)).toNat
  rw [ix2_eq_valueIdx]

theorem word_eq_iff (a b : Fin 64) : BitVec.ofNat 32 a.val = BitVec.ofNat 32 b.val ↔ a = b := by
  constructor
  · intro h
    have := congrArg BitVec.toNat h
    have h1 := a.isLt; have h2 := b.isLt
    simp at this
    exact Fin.ext (by omega)
  · rintro rfl; rfl

/-- Adding up over the sixteen lanes: a row's places counted by their remainder. -/
theorem sum_lanes (s : ℕ → ℕ) (v : ℕ) (hv : v < 65) :
    ∑ i ∈ Finset.range 16, histC s 512 (65 * i + v) = ((Finset.range 8192).filter fun p => s p = v).card := by
  rw [Finset.card_eq_sum_card_fiberwise (f := fun p => p % 16) (t := Finset.range 16)
    (fun p _ => by simp only [Finset.coe_range, Set.mem_Iio]; exact Nat.mod_lt _ (by decide))]
  refine Finset.sum_congr rfl fun i hi => ?_
  rw [Finset.mem_range] at hi
  have h1 : (65 * i + v) / 65 = i := by omega
  have h2 : (65 * i + v) % 65 = v := by omega
  unfold histC
  rw [h1, h2]
  refine Finset.card_bij (fun g _ => 16 * g + i) ?_ ?_ ?_
  · intro g hg
    simp only [Finset.mem_filter, Finset.mem_range] at hg ⊢
    exact ⟨⟨by omega, hg.2⟩, by omega⟩
  · intro g _ g' _ h
    have h : 16 * g + i = 16 * g' + i := h
    omega
  · intro p hp
    simp only [Finset.mem_filter, Finset.mem_range] at hp
    refine ⟨p / 16, ?_, by omega⟩
    simp only [Finset.mem_filter, Finset.mem_range]
    refine ⟨by omega, ?_⟩
    rw [show 16 * (p / 16) + i = p by omega]
    exact hp.1.2

theorem lanes_hist (S : IVec S128x8192 32) (b : Fin 128) (v : Fin 64) :
    lanes (histAll S) b v = BitVec.ofNat 32 ((Finset.range 8192).filter fun p => srow S b.val p = v.val).card := by
  rw [← sum_lanes (srow S b.val) v.val (by have := v.isLt; omega)]
  have hraw : ∀ j (hj : j < 1040), histAll S (ix2 b ⟨j, hj⟩) = BitVec.ofNat 32 (histC (srow S b.val) 512 j) := fun _ _ => rfl
  have hadd : ∀ x y : BitVec 32, IntOp.addi x y = x + y := fun _ _ => rfl
  unfold lanes
  simp only [hraw, hadd, Finset.sum_range_succ, Finset.sum_range_zero, Nat.zero_add, BitVec.ofNat_add, Nat.mul_zero, Nat.reduceMul]

/-- How often token `v` occurs among row `b`'s first 8189 places. -/
def occ (S : IVec S128x8192 32) (hS : Small S) (b : Fin 128) (v : Fin 64) : ℕ :=
  (Finset.univ.filter fun l : Fin 8189 => tok S hS b ⟨l.val, by have := l.isLt; omega⟩ = v).card

theorem occ_sum (S : IVec S128x8192 32) (hS : Small S) (b : Fin 128) (v : Fin 64) :
    ((Finset.range 8192).filter fun p => srow S b.val p = v.val).card
      = occ S hS b v + (if tok S hS b 8189 = v then 1 else 0) + (if tok S hS b 8190 = v then 1 else 0) + (if tok S hS b 8191 = v then 1 else 0) := by
  have h0 : occ S hS b v = ((Finset.range 8189).filter fun p => srow S b.val p = v.val).card := by
    unfold occ
    rw [Finset.card_filter, Finset.card_filter, ← Fin.sum_univ_eq_sum_range (fun p => if srow S b.val p = v.val then 1 else 0)]
    refine Finset.sum_congr rfl fun l _ => ?_
    have := srow_tok S hS b ⟨l.val, by have := l.isLt; omega⟩
    simp only at this
    rw [this]
    simp only [Fin.ext_iff]
  have hp : ∀ p : Fin 8192, (if srow S b.val p.val = v.val then 1 else 0 : ℕ) = if tok S hS b p = v then 1 else 0 := by
    intro p
    rw [srow_tok S hS b p]
    simp only [Fin.ext_iff]
  rw [h0, ← hp 8189, ← hp 8190, ← hp 8191, Finset.card_filter, Finset.card_filter, Finset.sum_range_succ, Finset.sum_range_succ, Finset.sum_range_succ]
  rfl

theorem tail_word (S : IVec S128x8192 32) (hS : Small S) (b : Fin 128) (k : Fin 128) :
    RegA.tailBlk S (ix2 b k) = BitVec.ofNat 32 (tok S hS b ⟨8064 + k.val, by have := k.isLt; omega⟩).val := by
  rw [← tok_word]
  show S (ValueIdx.ix2 _ _) = _
  rw [ix2_eq_valueIdx]
  rfl

theorem take_three (n : ℕ) (p q r : Prop) [Decidable p] [Decidable q] [Decidable r] :
    (((n + (if p then 1 else 0) + (if q then 1 else 0) + (if r then 1 else 0) : ℕ) : ℝ) : EReal)
      - ((if p then 1 else 0) + (if q then 1 else 0) + (if r then 1 else 0)) = ((n : ℝ) : EReal) := by
  have h : ∀ (p : Prop) [Decidable p], (if p then 1 else 0 : EReal) = (((if p then 1 else 0 : ℕ) : ℝ) : EReal) := by
    intro p _; split <;> simp
  rw [h p, h q, h r, ← EReal.coe_add, ← EReal.coe_add, ← EReal.coe_sub]
  congr 1
  push_cast
  ring

theorem tally_at (S : IVec S128x8192 32) (hS : Small S) (b : Fin 128) (v : Fin 64) :
    tally (histAll S) (tails (RegA.tailBlk S) : FVec Ideal S128x64 .f32) b v = (((occ S hS b v : ℕ) : ℝ) : EReal) := by
  unfold tally
  rw [lanes_hist, occ_sum S hS, tails_at, tail_word S hS, tail_word S hS, tail_word S hS]
  have hle : occ S hS b v ≤ 8189 := by
    unfold occ
    refine (Finset.card_filter_le _ _).trans ?_
    simp
  have e1 : (⟨8064 + (125 : Fin 128).val, by decide⟩ : Fin 8192) = 8189 := rfl
  have e2 : (⟨8064 + (126 : Fin 128).val, by decide⟩ : Fin 8192) = 8190 := rfl
  have e3 : (⟨8064 + (127 : Fin 128).val, by decide⟩ : Fin 8192) = 8191 := rfl
  rw [e1, e2, e3]
  simp only [word_eq_iff]
  have hw : ∀ n : ℕ, n < 2 ^ 31 → (FloatOps.sitofp .f32 (BitVec.ofNat 32 n) : Ideal .f32) = (((n : ℕ) : ℝ) : EReal) := by
    intro n hn
    show (((BitVec.ofNat 32 n).toInt : ℝ) : EReal) = _
    have e := BitVec.toInt_eq_toNat_cond (BitVec.ofNat 32 n)
    have e2 : (BitVec.ofNat 32 n).toNat = n := by simp; omega
    rw [e2] at e
    rw [e, if_pos (by omega)]
    simp
  rw [hw _ (by split_ifs <;> omega)]
  exact take_three _ _ _ _

end Cert.Proof

end
-- ==== Proof.Math.lean ====
/-
  The mathematics the two programs share: how often a token is among the six chosen positions, and a softmax over
  positions as a softmax over tokens.
-/
module

public import Idealize.ShloMosaic.PureOps
public import Idealize.ShloMosaic.Lib.Pointwise

@[expose] public section

noncomputable section

namespace Cert.Proof

open Finset

/-! ## The six greatest -/

/-- Six distinct positions of greatest key: a token fills as many of them as it has positions, or as many as the tokens
    of greater key leave. -/
theorem places {n : ℕ} (t : Fin n → Fin 64) (κ : Fin 64 → ℝ) (hκ : Function.Injective κ) (c : Fin 6 → Fin n) (hc : Function.Injective c)
    (hdom : ∀ l, (∀ s, c s ≠ l) → ∀ s, κ (t l) ≤ κ (t (c s))) (v : Fin 64) :
    (univ.filter fun s => t (c s) = v).card = min (6 - (univ.filter fun l => κ v < κ (t l)).card) (univ.filter fun l => t l = v).card := by
  classical
  set S : Finset (Fin n) := univ.image c with hS
  set A : Finset (Fin n) := univ.filter fun l => κ v < κ (t l) with hA
  set B : Finset (Fin n) := univ.filter fun l => t l = v with hB
  have hScard : S.card = 6 := by rw [hS, card_image_of_injective _ hc]; simp
  have hk : (univ.filter fun s => t (c s) = v).card = (S ∩ B).card := by
    rw [← card_image_of_injective _ hc]
    congr 1
    ext l
    simp only [mem_image, mem_filter, mem_univ, true_and, mem_inter, hS, hB]
    constructor
    · rintro ⟨s, h, rfl⟩; exact ⟨⟨s, rfl⟩, h⟩
    · rintro ⟨⟨s, rfl⟩, h⟩; exact ⟨s, h, rfl⟩
  have hnot : ∀ l, l ∉ S → ∀ s ∈ S, κ (t l) ≤ κ (t s) := by
    intro l hl s hs
    obtain ⟨i, -, rfl⟩ := mem_image.mp hs
    exact hdom l (fun j h => hl (mem_image.mpr ⟨j, mem_univ _, h⟩)) i
  have hAB : ∀ l, l ∈ A → l ∉ B := by
    intro l h h'
    simp only [hA, hB, mem_filter, mem_univ, true_and] at h h'
    rw [h'] at h; exact lt_irrefl _ h
  rw [hk]
  have hkB : (S ∩ B).card ≤ B.card := card_le_card inter_subset_right
  by_cases hAS : A ⊆ S
  · have h1 : (S \ A).card = 6 - A.card := by rw [card_sdiff_of_subset hAS, hScard]
    have h2 : (S ∩ B).card ≤ (S \ A).card := by
      refine card_le_card fun l hl => ?_
      rw [mem_inter] at hl
      exact mem_sdiff.mpr ⟨hl.1, fun h => hAB l h hl.2⟩
    by_cases hBS : B ⊆ S
    · have h3 : S ∩ B = B := inter_eq_right.mpr hBS
      rw [h3] at h2 ⊢
      omega
    · obtain ⟨l, hlB, hlS⟩ := not_subset.mp hBS
      have h3 : (S \ A).card ≤ (S ∩ B).card := by
        refine card_le_card fun s hs => ?_
        rw [mem_sdiff] at hs
        refine mem_inter.mpr ⟨hs.1, ?_⟩
        have h4 := hnot l hlS s hs.1
        simp only [hB, mem_filter, mem_univ, true_and] at hlB
        rw [hlB] at h4
        have h5 : ¬ κ v < κ (t s) := fun h => hs.2 (by simp [hA, h])
        simp only [hB, mem_filter, mem_univ, true_and]
        exact hκ (le_antisymm (not_lt.mp h5) h4)
      omega
  · obtain ⟨l, hlA, hlS⟩ := not_subset.mp hAS
    have h4 : S ⊆ A := by
      intro s hs
      have := hnot l hlS s hs
      simp only [hA, mem_filter, mem_univ, true_and] at hlA ⊢
      exact lt_of_lt_of_le hlA this
    have h5 : (S ∩ B).card = 0 := by
      rw [card_eq_zero, eq_empty_iff_forall_notMem]
      intro s hs
      rw [mem_inter] at hs
      exact hAB s (h4 hs.1) hs.2
    have h6 : 6 ≤ A.card := hScard ▸ card_le_card h4
    omega

/-! ## Softmax over positions, softmax over tokens -/

/-- A sum over the six places, by the token in each. -/
theorem sum_places (c : Fin 6 → Fin 64) (f : Fin 64 → ℝ) :
    ∑ s, f (c s) = ∑ v, ((univ.filter fun s => c s = v).card : ℝ) * f v := by
  classical
  have : ∀ v, ((univ.filter fun s => c s = v).card : ℝ) * f v = ∑ s, if c s = v then f v else 0 := by
    intro v
    rw [← sum_filter, sum_const, nsmul_eq_mul]
  simp only [this]
  rw [sum_comm]
  refine sum_congr rfl fun s _ => ?_
  simp

/-- The softmax-weighted mean over the six places is the softmax-weighted mean over tokens, whatever is taken off the
    scores in either: `K v` places hold token `v`. -/
theorem softmax_places (c : Fin 6 → Fin 64) (L x : Fin 64 → ℝ) (M T : ℝ) (E : Fin 64 → ℝ)
    (hE : ∀ v, (univ.filter fun s => c s = v).card ≠ 0 → E v = L v) :
    ∑ s, Real.exp (L (c s) - M) / (∑ s', Real.exp (L (c s') - M)) * x (c s)
      = ∑ v, ((univ.filter fun s => c s = v).card : ℝ) * Real.exp (E v - T)
          / (∑ u, ((univ.filter fun s => c s = u).card : ℝ) * Real.exp (E u - T)) * x v := by
  set K : Fin 64 → ℝ := fun v => ((univ.filter fun s => c s = v).card : ℝ) with hK
  have hEL : ∀ v, K v * Real.exp (E v - T) = K v * Real.exp (L v) * Real.exp (- T) := by
    intro v
    by_cases h : (univ.filter fun s => c s = v).card = 0
    · simp [hK, h]
    · rw [hE v h, sub_eq_add_neg, Real.exp_add, mul_assoc]
  have hpos : 0 < ∑ v, K v * Real.exp (L v) := by
    rw [← sum_places c fun v => Real.exp (L v)]
    exact sum_pos (fun s _ => Real.exp_pos _) ⟨0, mem_univ _⟩
  have hd1 : ∑ s', Real.exp (L (c s') - M) = (∑ v, K v * Real.exp (L v)) * Real.exp (-M) := by
    rw [← sum_places c fun v => Real.exp (L v), sum_mul]
    exact sum_congr rfl fun s _ => by rw [sub_eq_add_neg, Real.exp_add]
  have hd2 : ∑ u, K u * Real.exp (E u - T) = (∑ v, K v * Real.exp (L v)) * Real.exp (-T) := by
    rw [sum_mul]; exact sum_congr rfl fun u _ => hEL u
  rw [hd1]
  show _ = ∑ v, K v * Real.exp (E v - T) / (∑ u, K u * Real.exp (E u - T)) * x v
  rw [hd2]
  set Z := ∑ v, K v * Real.exp (L v) with hZ
  have hl : ∀ s, Real.exp (L (c s) - M) / (Z * Real.exp (-M)) * x (c s) = (fun v => Real.exp (L v) / Z * x v) (c s) := by
    intro s
    show _ = Real.exp (L (c s)) / Z * x (c s)
    rw [sub_eq_add_neg, Real.exp_add, mul_div_mul_right _ _ (Real.exp_ne_zero _)]
  simp only [hl]
  rw [sum_places c fun v => Real.exp (L v) / Z * x v]
  refine sum_congr rfl fun v _ => ?_
  rw [hEL, mul_div_mul_right _ _ (Real.exp_ne_zero _), mul_div_assoc, mul_assoc]

end Cert.Proof

end
-- ==== Proof.Agree.lean ====
/-
  The two programs' weighted means agree: over real encodings whose sums of squares differ from token to token, the
  softmax over the six positions of greatest norm is the softmax over tokens that each takes its places.
-/
module

public import proofs.«01_k».proof.Proof.Enc
public import proofs.«01_k».proof.Proof.Math

@[expose] public section

noncomputable section

namespace Cert.Proof

open Idealize.ShloMosaic

/-! ## Real numbers among the extended ones -/

/-- The value is a real number. -/
def IsR (x : EReal) : Prop := ∃ r : ℝ, x = (r : EReal)

theorem IsR.add {x y : EReal} : IsR x → IsR y → IsR (x + y) := by
  rintro ⟨a, rfl⟩ ⟨b, rfl⟩; exact ⟨a + b, (EReal.coe_add a b).symm⟩

theorem IsR.sub {x y : EReal} : IsR x → IsR y → IsR (x - y) := by
  rintro ⟨a, rfl⟩ ⟨b, rfl⟩; exact ⟨a - b, (EReal.coe_sub a b).symm⟩

theorem IsR.mul {x y : EReal} : IsR x → IsR y → IsR (x * y) := by
  rintro ⟨a, rfl⟩ ⟨b, rfl⟩; exact ⟨a * b, (EReal.coe_mul a b).symm⟩

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem IsR.max {x y : EReal} : IsR x → IsR y → IsR (max x y) := by
  rintro ⟨a, rfl⟩ ⟨b, rfl⟩; exact ⟨_, coe_max a b⟩

theorem IsR.zero : IsR 0 := ⟨0, EReal.coe_zero.symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} (s : Finset ι) {f : ι → EReal} (h : ∀ i, IsR (f i)) : IsR (∑ i ∈ s, f i) := by
  choose g hg using h
  exact ⟨∑ i ∈ s, g i, by simp only [hg, coe_sum]⟩

theorem div_real {a b : ℝ} (h : b ≠ 0) : Ideal.div (a : EReal) (b : EReal) = ((a / b : ℝ) : EReal) := by
  rw [Ideal.div_coe h, ← EReal.coe_mul]
  congr 1
  rw [mul_one_div]

theorem cols_eq : cols = ((64 : ℝ) : EReal) := by
  unfold cols
  simp [Ideal.ofBits, Ideal.ieee]
  rw [← EReal.coe_mul]
  norm_num

theorem tiny_pos : ∃ r : ℝ, 0 < r ∧ tiny = (r : EReal) := by
  refine ⟨10995116 * (2 ^ 40)⁻¹, by norm_num, ?_⟩
  unfold tiny
  simp [Ideal.ofBits, Ideal.ieee]

theorem bot_eq : Ideal.ofBits .f32 0xFF800000#32 = (⊥ : EReal) := by simp [Ideal.ofBits, Ideal.ieee]

theorem six_eq : Ideal.ofBits .f32 0x40C00000#32 = ((6 : ℝ) : EReal) := by
  simp [Ideal.ofBits, Ideal.ieee]
  rw [← EReal.coe_mul]
  norm_num

theorem eighth_eq : Ideal.ofBits .f32 0x3E000000#32 = ((1 / 8 : ℝ) : EReal) := by
  simp [Ideal.ofBits, Ideal.ieee]
  rw [← EReal.coe_mul]
  norm_num

theorem eight_eq : Ideal.ofBits .f32 0x41000000#32 = ((8 : ℝ) : EReal) := by
  simp [Ideal.ofBits, Ideal.ieee]
  rw [← EReal.coe_mul]
  norm_num

theorem low_real : IsR (Ideal.ofBits .f32 0xF149F2CA#32) := by
  refine ⟨-(13234890 * 2 ^ 76), ?_⟩
  simp [Ideal.ofBits, Ideal.ieee]

/-- The greatest of finitely many reals, at least one, is real. -/
theorem fold_real {ι : Type} (s : Finset ι) (hs : s.Nonempty) {f : ι → EReal} (hf : ∀ i, IsR (f i)) :
    IsR (Finset.fold max (Ideal.ofBits .f32 0xFF800000#32) f s) := by
  classical
  rw [bot_eq]
  induction hs using Finset.Nonempty.cons_induction with
  | singleton a => rw [Finset.fold_singleton, max_bot_right]; exact hf a
  | cons a s ha hs ih => rw [Finset.fold_cons]; exact (hf a).max ih

/-! ## The encoding is real -/

theorem mean_real {x : Fin 64 → EReal} (hx : ∀ d, IsR (x d)) : IsR (mean x) := by
  obtain ⟨s, hs⟩ := IsR.sum Finset.univ hx
  unfold mean
  rw [hs, cols_eq, div_real (by norm_num)]
  exact ⟨_, rfl⟩

theorem spread_real {x : Fin 64 → EReal} (hx : ∀ d, IsR (x d)) : ∃ r : ℝ, 0 < r ∧ spread x = (r : EReal) := by
  have hm := mean_real hx
  choose y hy using fun d => (hx d).sub hm
  obtain ⟨t, ht, ht'⟩ := tiny_pos
  refine ⟨(∑ k, y k * y k) / 64 + t, ?_, ?_⟩
  · have : 0 ≤ ∑ k, y k * y k := Finset.sum_nonneg fun k _ => mul_self_nonneg _
    positivity
  · unfold spread
    simp only [hy, ← EReal.coe_mul, coe_sum]
    rw [cols_eq, div_real (by norm_num), ht', ← EReal.coe_add]

/-- A sum of two extended reals that is real has real terms. -/
theorem IsR.of_add {x y : EReal} (h : IsR (x + y)) : IsR x ∧ IsR y := by
  obtain ⟨r, hr⟩ := h
  induction x using EReal.rec with
  | bot => rw [EReal.bot_add] at hr; exact absurd hr (EReal.bot_ne_coe r)
  | top =>
    induction y using EReal.rec with
    | bot => rw [EReal.add_bot] at hr; exact absurd hr (EReal.bot_ne_coe r)
    | top => rw [EReal.top_add_top] at hr; exact absurd hr (EReal.top_ne_coe r)
    | coe b => rw [EReal.top_add_coe] at hr; exact absurd hr (EReal.top_ne_coe r)
  | coe a =>
    induction y using EReal.rec with
    | bot => rw [EReal.add_bot] at hr; exact absurd hr (EReal.bot_ne_coe r)
    | top => rw [EReal.coe_add_top] at hr; exact absurd hr (EReal.top_ne_coe r)
    | coe b => exact ⟨⟨a, rfl⟩, ⟨b, rfl⟩⟩

theorem IsR.of_neg {x : EReal} (h : IsR (-x)) : IsR x := by
  obtain ⟨r, hr⟩ := h
  exact ⟨-r, by rw [EReal.coe_neg, ← hr, neg_neg]⟩

theorem IsR.of_sum {ι : Type} (s : Finset ι) {f : ι → EReal} (h : IsR (∑ i ∈ s, f i)) : ∀ i ∈ s, IsR (f i) := by
  classical
  induction s using Finset.induction_on with
  | empty => intro i hi; exact absurd hi (Finset.notMem_empty i)
  | insert a s ha ih =>
    rw [Finset.sum_insert ha] at h
    intro i hi
    rcases Finset.mem_insert.mp hi with rfl | hi
    · exact h.of_add.1
    · exact ih h.of_add.2 i hi

/-- An extended real is real or one of the two infinities. -/
theorem not_real {x : EReal} (h : ¬ IsR x) : x = ⊤ ∨ x = ⊥ := by
  induction x using EReal.rec with
  | bot => exact Or.inr rfl
  | top => exact Or.inl rfl
  | coe r => exact absurd ⟨r, rfl⟩ h

theorem sq_top {x : EReal} (h : ¬ IsR x) : x * x = ⊤ := by
  rcases not_real h with rfl | rfl
  · exact EReal.top_mul_top
  · exact EReal.bot_mul_bot

theorem sq_nonneg' (x : EReal) : 0 ≤ x * x := by
  by_cases h : IsR x
  · obtain ⟨r, rfl⟩ := h
    rw [← EReal.coe_mul]
    exact_mod_cast mul_self_nonneg r
  · rw [sq_top h]; exact le_top

/-- A sum of squares with an infinite term is infinite. -/
theorem sum_sq_top {f : Fin 64 → EReal} (d : Fin 64) (h : ¬ IsR (f d)) : ∑ k, f k * f k = ⊤ := by
  refine top_le_iff.mp ?_
  rw [← sq_top h]
  exact Finset.single_le_sum (f := fun k => f k * f k) (fun k _ => sq_nonneg' (f k)) (Finset.mem_univ d)

theorem top_div_cols : Ideal.div ⊤ cols = ⊤ := by
  rw [cols_eq, Ideal.div_coe (by norm_num)]
  exact EReal.top_mul_coe_of_pos (by norm_num)

/-- The mean of a row with an infinite entry is infinite. -/
theorem mean_infinite {x : Fin 64 → EReal} (d : Fin 64) (h : ¬ IsR (x d)) : ¬ IsR (mean x) := by
  have hs : ¬ IsR (∑ d, x d) := fun hs => h (hs.of_sum _ d (Finset.mem_univ d))
  unfold mean
  rcases not_real hs with hs | hs <;> rw [hs]
  · rw [top_div_cols]; rintro ⟨r, hr⟩; exact absurd hr (EReal.top_ne_coe r)
  · rw [cols_eq, Ideal.div_coe (by norm_num), EReal.bot_mul_coe_of_pos (by norm_num)]
    rintro ⟨r, hr⟩; exact absurd hr (EReal.bot_ne_coe r)

/-- The spread of a row with an infinite entry is infinite. -/
theorem spread_infinite {x : Fin 64 → EReal} (d : Fin 64) (h : ¬ IsR (x d)) : spread x = ⊤ := by
  have hm := mean_infinite d h
  have hd : ¬ IsR (x d - mean x) := fun hr => hm (IsR.of_neg (IsR.of_add (x := x d) (y := -mean x) (by rwa [← sub_eq_add_neg])).2)
  obtain ⟨t, -, ht⟩ := tiny_pos
  unfold spread
  rw [sum_sq_top (f := fun k => x k - mean x) d hd, top_div_cols, ht, EReal.top_add_coe]

/-- Normalising gives reals, whatever the row: a row with an infinite entry becomes the shift alone. -/
theorem normed_real {g bt : Fin 64 → EReal} (x : Fin 64 → EReal) (hg : ∀ d, IsR (g d)) (hb : ∀ d, IsR (bt d)) (d : Fin 64) :
    IsR (normed g bt x d) := by
  unfold normed
  by_cases hx : ∀ d, IsR (x d)
  · obtain ⟨r, hr, hr'⟩ := spread_real hx
    obtain ⟨y, hy⟩ := (hx d).sub (mean_real hx)
    rw [hr', Ideal.sqrt_coe, if_neg (not_lt.mpr hr.le), hy, div_real (Real.sqrt_pos.mpr hr).ne']
    exact (IsR.mul ⟨_, rfl⟩ (hg d)).add (hb d)
  · obtain ⟨k, hk⟩ := not_forall.mp hx
    have hz : ∀ y : EReal, Ideal.div y (Ideal.sqrt ⊤) = 0 := by
      intro y
      show Ideal.div y ⊤ = 0
      unfold Ideal.div
      rw [if_neg EReal.top_ne_zero, EReal.inv_top, mul_zero]
    rw [spread_infinite k hk, hz, zero_mul, zero_add]
    exact hb d

/-- The encoding is real where the scale and the shift are. -/
theorem enc_real {w1 : Fin 64 → Fin 128 → EReal} {b1 : Fin 128 → EReal} {w2 : Fin 128 → Fin 64 → EReal} {b2 g bt r : Fin 64 → EReal}
    (hg : ∀ d, IsR (g d)) (hb : ∀ d, IsR (bt d)) (d : Fin 64) : IsR (enc w1 b1 w2 b2 g bt r d) :=
  normed_real _ hg hb d

/-- With an infinite shift every encoding's sum of squares is infinite. -/
theorem sq_enc_top {w1 : Fin 64 → Fin 128 → EReal} {b1 : Fin 128 → EReal} {w2 : Fin 128 → Fin 64 → EReal} {b2 g bt r : Fin 64 → EReal}
    (d : Fin 64) (h : ¬ IsR (bt d)) : sq (enc w1 b1 w2 b2 g bt r) = ⊤ :=
  sum_sq_top d fun hr => h (IsR.of_add hr).2

/-! ## The two weighted means -/

/-- The places left to a token by the tokens of greater key, as a natural number. -/
theorem share_nat (A c : ℕ) : min (max (((6 : ℝ) : EReal) - ((A : ℝ) : EReal)) 0) ((c : ℝ) : EReal) = (((min (6 - A) c : ℕ) : ℝ) : EReal) := by
  rw [← EReal.coe_sub, ← EReal.coe_zero, coe_max, coe_min]
  congr 1
  rw [Nat.cast_min]
  congr 1
  rcases le_total A 6 with h | h
  · rw [Nat.cast_sub h, max_eq_left (by have : (A : ℝ) ≤ 6 := by exact_mod_cast h
                                        linarith)]
    norm_num
  · rw [Nat.sub_eq_zero_of_le h, max_eq_right (by have : (6 : ℝ) ≤ A := by exact_mod_cast h
                                                  linarith)]
    norm_num

/-- The positions of greater key, counted token by token. -/
theorem above_card {n : ℕ} (t : Fin n → Fin 64) (κ : Fin 64 → ℝ) (v : Fin 64) : (Finset.univ.filter fun l => κ v < κ (t l)).card
    = ∑ u, if κ v < κ u then (Finset.univ.filter fun l => t l = u).card else 0 := by
  rw [Finset.card_eq_sum_card_fiberwise (f := t) (t := Finset.univ) (fun _ _ => Finset.mem_coe.mpr (Finset.mem_univ _))]
  refine Finset.sum_congr rfl fun u _ => ?_
  by_cases hlt : κ v < κ u
  · rw [if_pos hlt]
    congr 1
    ext l
    simp only [Finset.mem_filter, Finset.mem_univ, true_and]
    exact ⟨fun e => e.2, fun e => ⟨e.symm ▸ hlt, e⟩⟩
  · rw [if_neg hlt, Finset.card_eq_zero, Finset.eq_empty_iff_forall_notMem]
    intro l hl
    simp only [Finset.mem_filter, Finset.mem_univ, true_and] at hl
    exact hlt (hl.2 ▸ hl.1)

theorem ctx_agree (h : Fin 64 → Fin 64 → EReal) (hh : ∀ v d, IsR (h v d)) (q : Fin 64 → EReal) (hq : ∀ d, IsR (q d))
    (hne : ∀ u v, u ≠ v → sq (h u) ≠ sq (h v)) {n : ℕ} (t : Fin n → Fin 64) (c : Fin 6 → Fin n) (hc : Function.Injective c)
    (hdom : ∀ l, (∀ s, c s ≠ l) → ∀ s, Ideal.sqrt (sq (h (t l))) ≤ Ideal.sqrt (sq (h (t (c s)))))
    (M : EReal) (hM : IsR M) (cnt : Fin 64 → EReal) (hcnt : ∀ v, cnt v = (((Finset.univ.filter fun l => t l = v).card : ℝ) : EReal))
    (m L : Fin 64 → EReal) (hm : ∀ v, m v = min (max (Ideal.ofBits .f32 0x40C00000#32 - ∑ u, cnt u * (if sq (h v) < sq (h u) then 1 else 0)) 0) (cnt v))
    (hL : ∀ v, L v = (∑ d, q d * h v d) * Ideal.ofBits .f32 0x3E000000#32) (d : Fin 64) :
    ∑ s, Ideal.div (Ideal.exp (Ideal.div (∑ d, q d * h (t (c s)) d) (Ideal.ofBits .f32 0x41000000#32) - M))
        (∑ s', Ideal.exp (Ideal.div (∑ d, q d * h (t (c s')) d) (Ideal.ofBits .f32 0x41000000#32) - M)) * h (t (c s)) d
      = ∑ v, Ideal.div (weight m L v) (∑ u, weight m L u) * h v d := by
  classical
  choose hr hhr using hh
  choose qr hqr using hq
  obtain ⟨Mr, rfl⟩ := hM
  -- the keys
  set κ : Fin 64 → ℝ := fun v => ∑ d, hr v d * hr v d with hκdef
  have hsq : ∀ v, sq (h v) = ((κ v : ℝ) : EReal) := by
    intro v
    unfold sq
    simp only [hhr, ← EReal.coe_mul, coe_sum, hκdef]
  have hκ0 : ∀ v, 0 ≤ κ v := fun v => Finset.sum_nonneg fun k _ => mul_self_nonneg _
  have hκ : Function.Injective κ := by
    intro u v huv
    by_contra hn
    exact hne u v hn (by rw [hsq, hsq, huv])
  have hdom' : ∀ l, (∀ s, c s ≠ l) → ∀ s, κ (t l) ≤ κ (t (c s)) := by
    intro l hl s
    have := hdom l hl s
    rw [hsq, hsq, Ideal.sqrt_coe, Ideal.sqrt_coe, if_neg (not_lt.mpr (hκ0 _)), if_neg (not_lt.mpr (hκ0 _)), EReal.coe_le_coe_iff] at this
    exact (Real.sqrt_le_sqrt_iff (hκ0 _)).mp this
  -- the places
  set K : Fin 64 → ℕ := fun v => (Finset.univ.filter fun s => t (c s) = v).card with hK
  have hmK : ∀ v, m v = (((K v : ℕ) : ℝ) : EReal) := by
    intro v
    have hA : ∑ u, cnt u * (if sq (h v) < sq (h u) then 1 else 0) = (((Finset.univ.filter fun l => κ v < κ (t l)).card : ℝ) : EReal) := by
      have h1 : ∀ u, cnt u * (if sq (h v) < sq (h u) then 1 else 0)
          = (((if κ v < κ u then (Finset.univ.filter fun l => t l = u).card else 0 : ℕ) : ℝ) : EReal) := by
        intro u
        have hiff : sq (h v) < sq (h u) ↔ κ v < κ u := by rw [hsq, hsq, EReal.coe_lt_coe_iff]
        rw [hcnt]
        by_cases hlt : κ v < κ u
        · rw [if_pos hlt, if_pos (hiff.mpr hlt), mul_one]
        · rw [if_neg hlt, if_neg (fun e => hlt (hiff.mp e)), mul_zero]; simp
      simp only [h1]
      rw [coe_sum, above_card t κ v, Nat.cast_sum]
    rw [hm v, hA, hcnt, six_eq, share_nat, ← places t κ hκ c hc hdom' v]
  -- the scores
  set Lr : Fin 64 → ℝ := fun v => (∑ d, qr d * hr v d) / 8 with hLr
  have hdot : ∀ v, ∑ d, q d * h v d = ((∑ d, qr d * hr v d : ℝ) : EReal) := by
    intro v
    simp only [hqr, hhr, ← EReal.coe_mul, coe_sum]
  have hL' : ∀ v, L v = ((Lr v : ℝ) : EReal) := by
    intro v
    rw [hL, hdot, eighth_eq, ← EReal.coe_mul, hLr]
    congr 1
    ring
  have hS : ∀ v, Ideal.div (∑ d, q d * h v d) (Ideal.ofBits .f32 0x41000000#32) = ((Lr v : ℝ) : EReal) := by
    intro v
    rw [hdot, eight_eq, div_real (by norm_num)]
  -- the tokens' weights
  obtain ⟨low, hlow⟩ := low_real
  set E : Fin 64 → ℝ := fun v => if 0 < K v then Lr v else low with hE
  have hent : ∀ v, entered m L v = ((E v : ℝ) : EReal) := by
    intro v
    unfold entered
    rw [hmK, hL', hlow]
    by_cases hk : 0 < K v
    · have : (0 : EReal) < (((K v : ℕ) : ℝ) : EReal) := by exact_mod_cast hk
      simp only [hE, if_pos hk, if_pos this]
    · have : ¬ (0 : EReal) < (((K v : ℕ) : ℝ) : EReal) := by
        have : K v = 0 := by omega
        simp [this]
      simp only [hE, if_neg hk, if_neg this]
  obtain ⟨T, hT⟩ := fold_real Finset.univ ⟨0, Finset.mem_univ _⟩ (f := entered m L) (fun v => ⟨_, hent v⟩)
  have hw : ∀ v, weight m L v = ((((K v : ℕ) : ℝ) * Real.exp (E v - T) : ℝ) : EReal) := by
    intro v
    unfold weight
    rw [hT, hent, hmK, ← EReal.coe_sub, Ideal.exp_coe, ← EReal.coe_mul]
  have hagree := softmax_places (fun s => t (c s)) Lr (fun v => hr v d) Mr T E (by
    intro v hv
    have : 0 < K v := Nat.pos_of_ne_zero hv
    simp only [hE, if_pos this])
  have hposL : (∑ s', Real.exp (Lr (t (c s')) - Mr)) ≠ 0 :=
    (Finset.sum_pos (fun s _ => Real.exp_pos _) ⟨0, Finset.mem_univ _⟩).ne'
  have hposR : (∑ u, ((K u : ℕ) : ℝ) * Real.exp (E u - T)) ≠ 0 := by
    refine (Finset.sum_pos' (fun u _ => by positivity) ⟨t (c 0), Finset.mem_univ _, ?_⟩).ne'
    have : 0 < K (t (c 0)) := Finset.card_pos.mpr ⟨0, by simp⟩
    have : (0 : ℝ) < K (t (c 0)) := by exact_mod_cast this
    positivity
  simp only [hS, hw]
  simp only [← EReal.coe_sub, Ideal.exp_coe, coe_sum, div_real hposL, div_real hposR]
  simp only [hhr, ← EReal.coe_mul, coe_sum]
  exact congrArg _ hagree

end Cert.Proof

end
-- ==== Proof.Rows.lean ====
/-
  One row and column of the kernel's result and of the reference's are one number, at a finite scale, shift and query
  map and encodings told apart by their sums of squares.
-/
module

public import proofs.«01_k».proof.Proof.RefRead
public import proofs.«01_k».proof.Proof.Count
public import proofs.«01_k».proof.Proof.Agree

@[expose] public section

noncomputable section

namespace Cert.Proof.Ref

open Cert.ReferenceIdeal Cert.ReferenceIdeal.Gen Cert.ReferenceIdeal.Value Idealize.ShloMosaic Idealize.ShloMosaic.StableHlo Idealize.SL.Sem

section
variable (V : Valuation τ sig (Elt Ideal)) (hS : Small (aSeq V))

/-- What the reference returns, of its buffers. -/
def outR : FVec Ideal S128x64 .f32 :=
  addf (Host.dotGeneral (φ₁ := .f32) (φ₂ := .f32) dot_S128x64_S64x64_S128x64_1_0_0_1_n_n none (shapeCast _ (Host.dotGeneral (φ₁ := .f32) (φ₂ := .f32) dot_S128x1x6_S128x6x64_S128x1x64_2_1_1_2_0_0 none (Host.divf (res_main_v58 V) (broadcastInDim S128x1x6 ![0, 1, 2] bcast_S128x1x1_S128x1x6_0_1_2 (broadcastInDim S128x1x1 ![0, 1] bcast_S128x1_S128x1x1_0_1 (Host.reduceAdd (res_main_v58 V) (constant S_ .f32 0x00000000#32) reducesTo_S128x1x6_S128x1_d2 h_S_)))) (res_main_v41 V)) shapeCasts_S128x1x64_S128x64) (aWo V)) (broadcastInDim S128x64 ![0, 1] bcast_S1x64_S128x64_0_1 (broadcastInDim S1x64 ![1] bcast_S64_S1x64_1 (aBo V)))

/-- A finite scale, shift and query map, and encodings told apart by their sums of squares. -/
structure Apart : Prop where
  g : ∀ i, IsR (aG V i)
  bt : ∀ d, IsR (aBt V (ix1 d))
  wq : ∀ i, IsR (aWq V i)
  bq : ∀ i, IsR (aBq V i)
  ne : ∀ u v, u ≠ v → sq (hR V u) ≠ sq (hR V v)

variable (hA : Apart V)

include hA in
theorem hR_real (v d : Fin 64) : IsR (hR V v d) :=
  enc_real (fun _ => hA.g _) hA.bt d

include hA in
theorem qR_real (t d : Fin 64) : IsR (qR V t d) :=
  (IsR.sum _ fun j => (hR_real V hA t j).mul (hA.wq _)).add (hA.bq _)

include hA in
theorem scoreR_real (t v : Fin 64) : IsR (scoreR V t v) := by
  obtain ⟨r, hr⟩ := IsR.sum Finset.univ fun d => (qR_real V hA t d).mul (hR_real V hA v d)
  unfold scoreR
  rw [hr, eight_eq, div_real (by norm_num)]
  exact ⟨_, rfl⟩

include hA hS in
theorem topR_real (b : Fin 128) : IsR (topR V b) := by
  unfold topR
  have hf : ∀ i, IsR ((res_main_v51 V : FVec Ideal S128x1x6 .f32) i) := by
    intro i
    obtain ⟨b', z, s, rfl⟩ : ∃ (b' : Fin 128) (z : Fin 1) (s : Fin 6), i = ix3 b' z s := ⟨i 0, i 1, i 2, by funext a; fin_cases a <;> rfl⟩
    obtain rfl : z = 0 := Subsingleton.elim _ _
    rw [v51_at V (tok (aSeq V) hS) (tok_word (aSeq V) hS)]
    exact scoreR_real V hA _ _
  have hne : (Finset.univ.filter fun i => reducesTo_S128x1x6_S128x1_d2.drop i = ix2 b 0).Nonempty :=
    ⟨ix3 b 0 0, by
      rw [Finset.mem_filter]
      refine ⟨Finset.mem_univ _, ?_⟩
      funext a
      fin_cases a <;> rfl⟩
  have h := fold_real _ hne hf
  rw [bot_eq, max_bot_left, ← bot_eq]
  exact h

variable (B1 : FVec Ideal Cert.KernelIdeal.S1x128 .f32) (B2 G Bt Bq Bo : FVec Ideal S1x64 .f32)
  (hB1 : ∀ k, B1 (ix2 0 k) = aB1 V (ix1 k)) (hB2 : ∀ k, B2 (ix2 0 k) = aB2 V (ix1 k)) (hG : ∀ k, G (ix2 0 k) = aG V (ix1 k))
  (hBt : ∀ k, Bt (ix2 0 k) = aBt V (ix1 k)) (hBq : ∀ k, Bq (ix2 0 k) = aBq V (ix1 k)) (hBo : ∀ k, Bo (ix2 0 k) = aBo V (ix1 k))

include hB1 hB2 hG hBt in
theorem encK_eq (v : Fin 64) : encK (aE V) (aW1 V) B1 (aW2 V) B2 G Bt v = hR V v := by
  unfold encK hR
  simp only [hB1, hB2, hG, hBt]

include hA hB1 hB2 hG hBt hBq hBo in
theorem rows_agree (b : Fin 128) (o : Fin 64) :
    outs (histAll (aSeq V)) (larger (aE V) (aW1 V) B1 (aW2 V) B2 G Bt)
      (scores (RegA.tailBlk (aSeq V)) (aE V) (aW1 V) B1 (aW2 V) B2 G Bt (aWq V) Bq) (tails (RegA.tailBlk (aSeq V)) : FVec Ideal S128x64 .f32)
      (hidden (aE V) (aW1 V) B1 (aW2 V) B2 G Bt) (aWo V) Bo (ix2 b o)
    = (∑ d, (∑ s, Ideal.div (Ideal.exp (scoreR V (tok (aSeq V) hS b 8191) (slot V (tok (aSeq V) hS) b s) - topR V b))
        (∑ s', Ideal.exp (scoreR V (tok (aSeq V) hS b 8191) (slot V (tok (aSeq V) hS) b s') - topR V b)) * hR V (slot V (tok (aSeq V) hS) b s) d) * aWo V (ix2 d o)) + aBo V (ix1 o) := by
  have henc := encK_eq V B1 B2 G Bt hB1 hB2 hG hBt
  rw [outs_at, hBo]
  refine congrArg (· + aBo V (ix1 o)) (Finset.sum_congr rfl fun d _ => congrArg (· * aWo V (ix2 d o)) ?_)
  symm
  have key := ctx_agree (hR V) (hR_real V hA) (qR V (tok (aSeq V) hS b 8191)) (qR_real V hA _) hA.ne
    (t := fun l : Fin 8189 => tok (aSeq V) hS b ⟨l.val, by have := l.isLt; omega⟩) (chosen (res_main_v39 V) b) (chosen_injective _ b)
    (by
      intro l hl s
      have h := chosen_top (res_main_v39 V) b l hl s
      rw [v39_at V (tok (aSeq V) hS) (tok_word (aSeq V) hS), v39_at V (tok (aSeq V) hS) (tok_word (aSeq V) hS)] at h
      exact h)
    (topR V b) (topR_real V hS hA b) (fun v => ((occ (aSeq V) hS b v : ℕ) : ℝ)) (fun _ => rfl)
    (fun v => Cert.KernelIdeal.Gen.k2_pay2 (F := Ideal) (histAll (aSeq V)) (tails (RegA.tailBlk (aSeq V)) : FVec Ideal S128x64 .f32) (larger (aE V) (aW1 V) B1 (aW2 V) B2 G Bt) (ix2 b v))
    (fun v => scores (RegA.tailBlk (aSeq V)) (aE V) (aW1 V) B1 (aW2 V) B2 G Bt (aWq V) Bq (ix2 b v))
    (by
      intro v
      rw [pay2_at]
      simp only [tally_at (aSeq V) hS, larger_at, henc])
    (by
      intro v
      rw [scores_at _ _ _ _ _ _ _ _ _ _ b v (tok (aSeq V) hS b 8191) (tail_word (aSeq V) hS b 127)]
      simp only [henc, hBq]
      rfl) d
  simp only [hidden_at, henc]
  exact key

end

end Cert.Proof.Ref
end
-- ==== Proof.Apart.lean ====
/-
  The precondition `tokens_apart` read: the scale and the query map are finite, and no two tokens' encodings have one sum of
  squares.
-/
module

public import proofs.«01_k».proof.Proof.Enc
public import proofs.«01_k».proof.Proof.Agree
public import proofs.«01_k».proof.Proof.Gen.Pre_tokens_apart

@[expose] public section

noncomputable section

namespace Cert.Proof.Apart

open Cert.Pre_tokens_apart Cert.Pre_tokens_apart.Gen Idealize.ShloMosaic

/-- A value whose absolute value is below infinity is a real. -/
theorem isR_of_abs (x : Ideal .f32) (h : FloatOps.cmpf (F := Ideal) (φ := .f32) .olt (FloatOps.hostAbsf x) (Ideal.ofBits .f32 0x7F800000#32 : Ideal .f32) = 1#1) : IsR x := by
  have hinf : Ideal.ofBits .f32 0x7F800000#32 = (⊤ : EReal) := by simp [Ideal.ofBits, Ideal.ieee]
  rw [hinf] at h
  have h' : (BitVec.ofBool (decide (max (x : EReal) (-x) < ⊤))) = 1#1 := h
  have hlt : max (x : EReal) (-x) < ⊤ := by
    by_contra hn
    rw [decide_eq_false hn] at h'
    exact absurd h' (by decide)
  rw [max_lt_iff] at hlt
  induction x using EReal.rec with
  | bot => exact absurd hlt.2 (by simp)
  | top => exact absurd hlt.1 (by simp)
  | coe r => exact ⟨r, rfl⟩

section
variable (S : IVec S128x8192 32) (e : FVec Ideal S64x64 .f32) (w1 : FVec Ideal S64x128 .f32) (b1 : FVec Ideal S128 .f32) (w2 : FVec Ideal S128x64 .f32)
  (b2 g bt : FVec Ideal S64 .f32) (wq : FVec Ideal S64x64 .f32) (bq : FVec Ideal S64 .f32) (wo : FVec Ideal S64x64 .f32) (bo : FVec Ideal S64 .f32)

/-- Token `v`'s encoding, of the arrays. -/
abbrev encA (v : Fin 64) : Fin 64 → EReal :=
  enc (fun j k => w1 (ix2 j k)) (fun k => b1 (ix1 k)) (fun k d => w2 (ix2 k d)) (fun d => b2 (ix1 d)) (fun d => g (ix1 d)) (fun d => bt (ix1 d)) (fun j => e (ix2 v j))

theorem apart_at (u v : Fin 64) : (fn (F := Ideal) S e w1 b1 w2 b2 g bt wq bq wo bo).2.2.2.2 (ix2 u v)
    = (FloatOps.cmpf (F := Ideal) (φ := .f32) .une (sq (encA e w1 b1 w2 b2 g bt u)) (sq (encA e w1 b1 w2 b2 g bt v))) ||| IntOp.cmpi .eq (BitVec.ofNat 32 u.val) (BitVec.ofNat 32 v.val) := by
  pointwise [fn, fn_part1, fn_part2, fn_part3]
  rfl

theorem g_real (h : (fn (F := Ideal) S e w1 b1 w2 b2 g bt wq bq wo bo).2.1 = fun _ => 1#1) (i : _) : IsR (g i) :=
  isR_of_abs (g i) (congrFun h i)

theorem wq_real (h : (fn (F := Ideal) S e w1 b1 w2 b2 g bt wq bq wo bo).2.2.1 = fun _ => 1#1) (i : _) : IsR (wq i) :=
  isR_of_abs (wq i) (congrFun h i)

theorem bq_real (h : (fn (F := Ideal) S e w1 b1 w2 b2 g bt wq bq wo bo).2.2.2.1 = fun _ => 1#1) (i : _) : IsR (bq i) :=
  isR_of_abs (bq i) (congrFun h i)

theorem sq_ne (h : (fn (F := Ideal) S e w1 b1 w2 b2 g bt wq bq wo bo).2.2.2.2 = fun _ => 1#1) (u v : Fin 64) (huv : u ≠ v) :
    sq (encA e w1 b1 w2 b2 g bt u) ≠ sq (encA e w1 b1 w2 b2 g bt v) := by
  intro heq
  have h' := (apart_at S e w1 b1 w2 b2 g bt wq bq wo bo u v).symm.trans (congrFun h (ix2 u v))
  rw [heq] at h'
  have h1 : FloatOps.cmpf (F := Ideal) (φ := .f32) .une (sq (encA e w1 b1 w2 b2 g bt v)) (sq (encA e w1 b1 w2 b2 g bt v)) = 0#1 := by
    show BitVec.ofBool (decide _) = 0#1
    simp
  have h2 : IntOp.cmpi .eq (BitVec.ofNat 32 u.val) (BitVec.ofNat 32 v.val) = 0#1 := by
    have hne : BitVec.ofNat 32 u.val ≠ BitVec.ofNat 32 v.val := by
      intro hw
      apply huv
      have hw' := congrArg BitVec.toNat hw
      have := u.isLt; have := v.isLt
      simp at hw'
      exact Fin.ext (by omega)
    show BitVec.ofBool (BitVec.ofNat 32 u.val == BitVec.ofNat 32 v.val) = 0#1
    rw [beq_eq_false_iff_ne.mpr hne]
    rfl
  rw [h1, h2] at h'
  exact absurd h' (by decide)

/-- The shift is finite: with an infinite one all encodings would have an infinite sum of squares. -/
theorem bt_real (h : (fn (F := Ideal) S e w1 b1 w2 b2 g bt wq bq wo bo).2.2.2.2 = fun _ => 1#1) (d : Fin 64) : IsR (bt (ix1 d)) := by
  by_contra hd
  have hne := sq_ne S e w1 b1 w2 b2 g bt wq bq wo bo h 0 1 (by decide)
  exact hne ((sq_enc_top d hd).trans (sq_enc_top d hd).symm)

end

end Cert.Proof.Apart
end
-- ==== Proof.Algebraic.lean ====
/-
  The kernel's result and the reference's are one array: the two runs, and the rows of `Rows` at the kernel's buffers.
-/
module

public import proofs.«01_k».proof.Proof.Frames
public import proofs.«01_k».proof.Proof.Rows
public import proofs.«01_k».proof.Proof.Apart

@[expose] public section

noncomputable section

namespace Cert.Proof

open Cert.KernelIdeal Cert.KernelIdeal.Gen
open Idealize.ShloMosaic Idealize.ShloMosaic.TcCoe Idealize.ShloMosaic.StableHlo Idealize.SL Idealize.SL.Sem

section
variable (m : (ℓ : Loc nD τ sig) → Buf (Elt Ideal) ℓ) (d : Dev nD)

/-! ## The reshaped vectors -/

/-- A vector of 128 read as one row. -/
theorem row128 (x : FVec Ideal S128 .f32) (k : Fin 128) : (shapeCast S1x128 x shapeCasts_S128_S1x128 : FVec Ideal S1x128 .f32) (ix2 0 k) = x (ix1 k) := by
  pointwise

/-- A vector of 64 read as one row. -/
theorem row64 (x : FVec Ideal S64 .f32) (k : Fin 64) : (shapeCast S1x64 x shapeCasts_S64_S1x64 : FVec Ideal S1x64 .f32) (ix2 0 k) = x (ix1 k) := by
  pointwise

theorem VB_1 : tcV (VB m) d main_v1 = (shapeCast S1x128 (m ((d : Thread nD τ).loc main_arg3)) shapeCasts_S128_S1x128 : FVec Ideal S1x128 .f32) :=
  (reshape_result_ne _ _ _ _ _ _ _ (by decide)).trans ((reshape_result_ne _ _ _ _ _ _ _ (by decide)).trans ((reshape_result_ne _ _ _ _ _ _ _ (by decide)).trans
    ((reshape_result_ne _ _ _ _ _ _ _ (by decide)).trans ((reshape_result _ _ _ _ _ _ _).trans
      (congrArg (fun x : FVec Ideal S128 .f32 => (shapeCast S1x128 x shapeCasts_S128_S1x128 : FVec Ideal S1x128 .f32)) (VA_ne m d main_arg3 (by decide)))))))

theorem VB_2 : tcV (VB m) d main_v2 = (shapeCast S1x64 (m ((d : Thread nD τ).loc main_arg5)) shapeCasts_S64_S1x64 : FVec Ideal S1x64 .f32) :=
  (reshape_result_ne _ _ _ _ _ _ _ (by decide)).trans ((reshape_result_ne _ _ _ _ _ _ _ (by decide)).trans ((reshape_result_ne _ _ _ _ _ _ _ (by decide)).trans
    ((reshape_result _ _ _ _ _ _ _).trans
      (congrArg (fun x : FVec Ideal S64 .f32 => (shapeCast S1x64 x shapeCasts_S64_S1x64 : FVec Ideal S1x64 .f32))
        ((reshape_result_ne _ _ _ _ _ _ _ (by decide)).trans (VA_ne m d main_arg5 (by decide)))))))

theorem VB_3 : tcV (VB m) d main_v3 = (shapeCast S1x64 (m ((d : Thread nD τ).loc main_arg6)) shapeCasts_S64_S1x64 : FVec Ideal S1x64 .f32) :=
  (reshape_result_ne _ _ _ _ _ _ _ (by decide)).trans ((reshape_result_ne _ _ _ _ _ _ _ (by decide)).trans
    ((reshape_result _ _ _ _ _ _ _).trans
      (congrArg (fun x : FVec Ideal S64 .f32 => (shapeCast S1x64 x shapeCasts_S64_S1x64 : FVec Ideal S1x64 .f32))
        ((reshape_result_ne _ _ _ _ _ _ _ (by decide)).trans ((reshape_result_ne _ _ _ _ _ _ _ (by decide)).trans (VA_ne m d main_arg6 (by decide)))))))

theorem VB_4 : tcV (VB m) d main_v4 = (shapeCast S1x64 (m ((d : Thread nD τ).loc main_arg7)) shapeCasts_S64_S1x64 : FVec Ideal S1x64 .f32) :=
  (reshape_result_ne _ _ _ _ _ _ _ (by decide)).trans
    ((reshape_result _ _ _ _ _ _ _).trans
      (congrArg (fun x : FVec Ideal S64 .f32 => (shapeCast S1x64 x shapeCasts_S64_S1x64 : FVec Ideal S1x64 .f32))
        ((reshape_result_ne _ _ _ _ _ _ _ (by decide)).trans ((reshape_result_ne _ _ _ _ _ _ _ (by decide)).trans
          ((reshape_result_ne _ _ _ _ _ _ _ (by decide)).trans (VA_ne m d main_arg7 (by decide)))))))

theorem VB_5 : tcV (VB m) d main_v5 = (shapeCast S1x64 (m ((d : Thread nD τ).loc main_arg9)) shapeCasts_S64_S1x64 : FVec Ideal S1x64 .f32) :=
  (reshape_result _ _ _ _ _ _ _).trans
    (congrArg (fun x : FVec Ideal S64 .f32 => (shapeCast S1x64 x shapeCasts_S64_S1x64 : FVec Ideal S1x64 .f32))
      ((reshape_result_ne _ _ _ _ _ _ _ (by decide)).trans ((reshape_result_ne _ _ _ _ _ _ _ (by decide)).trans
        ((reshape_result_ne _ _ _ _ _ _ _ (by decide)).trans ((reshape_result_ne _ _ _ _ _ _ _ (by decide)).trans (VA_ne m d main_arg9 (by decide)))))))

/-- An argument no reshape writes is as launched before the first TensorCore call. -/
theorem VB_arg (b : Ref sig .tc) (h : b ∉ [main_v0, main_v1, main_v2, main_v3, main_v4, main_v5]) : tcV (VB m) d b = m ((d : Thread nD τ).loc b) := by
  simp only [List.mem_cons, List.not_mem_nil, or_false, not_or] at h
  obtain ⟨h0, h1, h2, h3, h4, h5⟩ := h
  rw [VB_ne m d b h1 h2 h3 h4 h5, VA_ne m d b h0]

/-- An argument is as launched before the second TensorCore call. -/
theorem VD_arg (b : Ref sig .tc)
    (h : b ∉ [main_v0, main_v1, main_v2, main_v3, main_v4, main_v5, main_v6_0, main_v6_1, main_v6_2, main_v6_3, main_v7]) : tcV (VD m) d b = m ((d : Thread nD τ).loc b) := by
  simp only [List.mem_cons, List.not_mem_nil, or_false, not_or] at h
  obtain ⟨h0, h1, h2, h3, h4, h5, h60, h61, h62, h63, h7⟩ := h
  rw [VD_ne m d b h7, VC_ne m d b h60 h61 h62 h63, VB_ne m d b h1 h2 h3 h4 h5, VA_ne m d b h0]

theorem VD_7 : tcV (VD m) d main_v7 = (shapeCast S1x64 (m ((d : Thread nD τ).loc main_arg11)) shapeCasts_S64_S1x64 : FVec Ideal S1x64 .f32) :=
  (reshape_result _ _ _ _ _ _ _).trans
    (congrArg (fun x : FVec Ideal S64 .f32 => (shapeCast S1x64 x shapeCasts_S64_S1x64 : FVec Ideal S1x64 .f32))
      ((VC_ne m d main_arg11 (by decide) (by decide) (by decide) (by decide)).trans (VB_arg m d main_arg11 (by decide))))

theorem VD_0 : tcV (VD m) d main_v0 = histAll (seqOf m d) :=
  (VD_ne m d main_v0 (by decide)).trans ((VC_ne m d main_v0 (by decide) (by decide) (by decide) (by decide)).trans
    ((VB_ne m d main_v0 (by decide) (by decide) (by decide) (by decide) (by decide)).trans (VA_v0 m d)))

/-! ## The kernel's result, of its arguments -/

/-- The vector argument `x` as one row of 64. -/
abbrev row (x : FVec Ideal S64 .f32) : FVec Ideal S1x64 .f32 := shapeCast S1x64 x shapeCasts_S64_S1x64
/-- The vector argument `x` as one row of 128. -/
abbrev rowL (x : FVec Ideal S128 .f32) : FVec Ideal S1x128 .f32 := shapeCast S1x128 x shapeCasts_S128_S1x128

/-- What the kernel returns, of its arguments. -/
def result (S : IVec S128x8192 32) (e : FVec Ideal S64x64 .f32) (w1 : FVec Ideal S64x128 .f32) (b1 : FVec Ideal S128 .f32) (w2 : FVec Ideal S128x64 .f32)
    (b2 g bt : FVec Ideal S64 .f32) (wq : FVec Ideal S64x64 .f32) (bq : FVec Ideal S64 .f32) (wo : FVec Ideal S64x64 .f32) (bo : FVec Ideal S64 .f32) : FVec Ideal S128x64 .f32 :=
  outs (histAll S) (larger e w1 (rowL b1) w2 (row b2) (row g) (row bt)) (scores (RegA.tailBlk S) e w1 (rowL b1) w2 (row b2) (row g) (row bt) wq (row bq))
    (tails (RegA.tailBlk S)) (hidden e w1 (rowL b1) w2 (row b2) (row g) (row bt)) wo (row bo)

theorem VE_result : tcV (VE m) d main_v8 = result (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5)) (m ((d : Thread nD τ).loc main_arg6))
    (m ((d : Thread nD τ).loc main_arg7)) (m ((d : Thread nD τ).loc main_arg8)) (m ((d : Thread nD τ).loc main_arg9)) (m ((d : Thread nD τ).loc main_arg10))
    (m ((d : Thread nD τ).loc main_arg11)) := by
  rw [VE_8]
  unfold RegB.oR result
  rw [VD_0, VD_7, VD_arg m d main_arg10 (by decide), VD_ne m d main_v6_0 (by decide), VD_ne m d main_v6_1 (by decide), VD_ne m d main_v6_2 (by decide),
    VD_ne m d main_v6_3 (by decide), VC_0, VC_1, VC_2, VC_3]
  unfold RegA.oG RegA.oL RegA.oO RegA.oH
  rw [VB_1, VB_2, VB_3, VB_4, VB_5, VB_arg m d main_arg0 (by decide), VB_arg m d main_arg1 (by decide), VB_arg m d main_arg2 (by decide), VB_arg m d main_arg4 (by decide),
    VB_arg m d main_arg8 (by decide)]

end

/-! ## The reference's result, of its arguments -/

section
variable (V : Valuation Cert.ReferenceIdeal.τ Cert.ReferenceIdeal.sig (Elt Ideal))

/-- `tokens_apart` of the reference's arguments. -/
def ArgsApart : Prop :=
    (Cert.Pre_tokens_apart.fn (F := Ideal) (Ref.aSeq V) (Ref.aE V) (Ref.aW1 V) (Ref.aB1 V) (Ref.aW2 V) (Ref.aB2 V) (Ref.aG V) (Ref.aBt V) (Ref.aWq V) (Ref.aBq V) (Ref.aWo V) (Ref.aBo V)).1 = (fun _ => 1#1)
      ∧ (Cert.Pre_tokens_apart.fn (F := Ideal) (Ref.aSeq V) (Ref.aE V) (Ref.aW1 V) (Ref.aB1 V) (Ref.aW2 V) (Ref.aB2 V) (Ref.aG V) (Ref.aBt V) (Ref.aWq V) (Ref.aBq V) (Ref.aWo V) (Ref.aBo V)).2.1 = (fun _ => 1#1)
      ∧ (Cert.Pre_tokens_apart.fn (F := Ideal) (Ref.aSeq V) (Ref.aE V) (Ref.aW1 V) (Ref.aB1 V) (Ref.aW2 V) (Ref.aB2 V) (Ref.aG V) (Ref.aBt V) (Ref.aWq V) (Ref.aBq V) (Ref.aWo V) (Ref.aBo V)).2.2.1 = (fun _ => 1#1)
      ∧ (Cert.Pre_tokens_apart.fn (F := Ideal) (Ref.aSeq V) (Ref.aE V) (Ref.aW1 V) (Ref.aB1 V) (Ref.aW2 V) (Ref.aB2 V) (Ref.aG V) (Ref.aBt V) (Ref.aWq V) (Ref.aBq V) (Ref.aWo V) (Ref.aBo V)).2.2.2.1 = (fun _ => 1#1)
      ∧ (Cert.Pre_tokens_apart.fn (F := Ideal) (Ref.aSeq V) (Ref.aE V) (Ref.aW1 V) (Ref.aB1 V) (Ref.aW2 V) (Ref.aB2 V) (Ref.aG V) (Ref.aBt V) (Ref.aWq V) (Ref.aBq V) (Ref.aWo V) (Ref.aBo V)).2.2.2.2 = (fun _ => 1#1)

theorem apart_of_holds (h : ArgsApart V) : Ref.Apart V := by
  obtain ⟨-, h1, h2, h3, h4⟩ := h
  exact ⟨Apart.g_real _ _ _ _ _ _ _ _ _ _ _ _ h1, Apart.bt_real _ _ _ _ _ _ _ _ _ _ _ _ h4, Apart.wq_real _ _ _ _ _ _ _ _ _ _ _ _ h2, Apart.bq_real _ _ _ _ _ _ _ _ _ _ _ _ h3, Apart.sq_ne _ _ _ _ _ _ _ _ _ _ _ _ h4⟩

theorem ref_result (h : ArgsApart V) :
    Ref.outR V = result (Ref.aSeq V) (Ref.aE V) (Ref.aW1 V) (Ref.aB1 V) (Ref.aW2 V) (Ref.aB2 V) (Ref.aG V) (Ref.aBt V) (Ref.aWq V) (Ref.aBq V) (Ref.aWo V) (Ref.aBo V) := by
  have hS : Small (Ref.aSeq V) := small_of_range _ h.1
  have hA := apart_of_holds V h
  funext i
  obtain ⟨b, o, rfl⟩ : ∃ (b : Fin 128) (o : Fin 64), i = ix2 b o := ⟨i 0, i 1, by funext a; fin_cases a <;> rfl⟩
  refine (Ref.out_at V (tok (Ref.aSeq V) hS) (tok_word (Ref.aSeq V) hS) b o).trans ?_
  exact (Ref.rows_agree V hS hA (rowL (Ref.aB1 V)) (row (Ref.aB2 V)) (row (Ref.aG V)) (row (Ref.aBt V)) (row (Ref.aBq V)) (row (Ref.aBo V))
    (row128 _) (row64 _) (row64 _) (row64 _) (row64 _) (row64 _) b o).symm

end

/-! ## The claim -/

theorem algebraic : Cert.algebraic_KernelIdeal_ReferenceIdeal_pre_tokens_apart := by
  intro m g m' g' hp hargs
  refine ⟨fun c => tcV (VE m) c main_v8, (θ_run Cert.KernelIdeal.defs _ _).mono (fun _ h => h.1) (run_args m g (small_of_apart m hp)), ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9, e10, e11⟩ := hargs c
  have hV : ArgsApart (launchContents m' c) := by
    have h := hp c
    rw [← e0, ← e1, ← e2, ← e3, ← e4, ← e5, ← e6, ← e7, ← e8, ← e9, ← e10, ← e11] at h
    exact h
  refine (ref_result (launchContents m' c) hV).trans ?_
  refine Eq.trans ?_ (VE_result m c).symm
  rw [← e0, ← e1, ← e2, ← e3, ← e4, ← e5, ← e6, ← e7, ← e8, ← e9, ← e10, ← e11]

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_seq_in_vocab
public import proofs.«01_k».proof.Proof.Gen.Pre_tokens_apart
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_seq_in_vocab.Gen.facts,
    Cert.Pre_tokens_apart.Gen.facts, frame_kernel, frame_kernelIdeal, frame_kernelIdeal_apart, frame_referenceIdeal, frame_referenceIdeal_apart, preserves, algebraic⟩

end Cert.Proof

end
